-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![2048, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S2048x256 : Shape := ⟨2, ![2048, 256]⟩
abbrev S3x2048x256 : Shape := ⟨3, ![3, 2048, 256]⟩
abbrev S3x8x256x256 : Shape := ⟨4, ![3, 8, 256, 256]⟩
abbrev S98 : Shape := ⟨1, ![98]⟩
abbrev S_ : Shape := ⟨0, ![]⟩
abbrev S1 : Shape := ⟨1, ![1]⟩
abbrev S128x256 : Shape := ⟨2, ![128, 256]⟩
abbrev S128x512 : Shape := ⟨2, ![128, 512]⟩
abbrev S1x2048x256 : Shape := ⟨3, ![1, 2048, 256]⟩
abbrev S1x128x256 : Shape := ⟨3, ![1, 128, 256]⟩
abbrev S1x1x128x256 : Shape := ⟨4, ![1, 1, 128, 256]⟩

abbrev nBuf : Space → Nat
  | .hbm => 8
  | .vmem => 12
  | .smem => 0
  | _ => 0

abbrev bufTy : (tb : Table) → Fin (tcTables nBuf tb) → BufTy
  | .hbm, ⟨0, _⟩ => ⟨S256x256, .bf16⟩
  | .hbm, ⟨1, _⟩ => ⟨S256x512, .bf16⟩
  | .hbm, ⟨2, _⟩ => ⟨S256x512, .bf16⟩
  | .hbm, ⟨3, _⟩ => ⟨S256x512, .bf16⟩
  | .hbm, ⟨4, _⟩ => ⟨S512x256, .bf16⟩
  | .hbm, ⟨5, _⟩ => ⟨S512x256, .bf16⟩
  | .hbm, ⟨6, _⟩ => ⟨S512x256, .bf16⟩
  | .hbm, ⟨7, _⟩ => ⟨S2048x256, .f32⟩
  | .local _ .vmem, ⟨0, _⟩ => ⟨S256x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S2048x256, .f32⟩
  | .local _ .vmem, ⟨8, _⟩ => ⟨S2048x256, .bf16⟩
  | .local _ .vmem, ⟨9, _⟩ => ⟨S3x2048x256, .bf16⟩
  | .local _ .vmem, ⟨10, _⟩ => ⟨S3x2048x256, .bf16⟩
  | .local _ .vmem, ⟨11, _⟩ => ⟨S3x8x256x256, .bf16⟩
  | _, _ => ⟨S256x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 204 → Bool
  | ⟨i, _⟩ => dmaSemScopedAt i

abbrev sig : RefSig :=
  (ofTc nBuf bufTy 1 204 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v25 : BitVec 32 := Scalar.muli v2 c256_i32
  let v28 : Index := Scalar.indexCast v25
  let c0_23 : Index := 0#32
  ![v28.toNat, 0]
def k0_off2 (d0 : Dev nD) (c0_i32_27 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_26 : BitVec 32 := 256#32
  let v34 : BitVec 32 := Scalar.muli v2 c256_i32_26
  let v35 : BitVec 32 := Scalar.addi v34 c0_i32_27
  let c0_i32_33 : BitVec 32 := 0#32
  ![v35.toNat, 0]
def k0_dev8 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_28 : BitVec 32 := 1#32
  let v36 : BitVec 32 := Scalar.xori v2 c1_i32_28
  let c1_i32_31 : BitVec 32 := 1#32
  let v37 : BitVec 32 := Scalar.muli v36 c1_i32_31
  let v38 : BitVec 32 := Scalar.addi c0_i32_32 v37
  v38.toNat
def k0_dev9 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_39 : BitVec 32 := 2#32
  let v49 : BitVec 32 := Scalar.xori v2 c2_i32_39
  let c1_i32_42 : BitVec 32 := 1#32
  let v50 : BitVec 32 := Scalar.muli v49 c1_i32_42
  let v51 : BitVec 32 := Scalar.addi c0_i32_43 v50
  v51.toNat
def k0_dev10 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_50 : BitVec 32 := 3#32
  let v62 : BitVec 32 := Scalar.xori v2 c3_i32_50
  let c1_i32_53 : BitVec 32 := 1#32
  let v63 : BitVec 32 := Scalar.muli v62 c1_i32_53
  let v64 : BitVec 32 := Scalar.addi c0_i32_54 v63
  v64.toNat
def k0_dev11 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_61 : BitVec 32 := 4#32
  let v75 : BitVec 32 := Scalar.xori v2 c4_i32_61
  let c1_i32_64 : BitVec 32 := 1#32
  let v76 : BitVec 32 := Scalar.muli v75 c1_i32_64
  let v77 : BitVec 32 := Scalar.addi c0_i32_65 v76
  v77.toNat
def k0_dev12 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_72 : BitVec 32 := 5#32
  let v88 : BitVec 32 := Scalar.xori v2 c5_i32_72
  let c1_i32_75 : BitVec 32 := 1#32
  let v89 : BitVec 32 := Scalar.muli v88 c1_i32_75
  let v90 : BitVec 32 := Scalar.addi c0_i32_76 v89
  v90.toNat
def k0_dev13 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_83 : BitVec 32 := 6#32
  let v101 : BitVec 32 := Scalar.xori v2 c6_i32_83
  let c1_i32_85 : BitVec 32 := 1#32
  let v102 : BitVec 32 := Scalar.muli v101 c1_i32_85
  let v103 : BitVec 32 := Scalar.addi c0_i32_86 v102
  v103.toNat
def k0_dev14 (d0 : Dev nD) : Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_93 : BitVec 32 := 7#32
  let v114 : BitVec 32 := Scalar.xori v2 c7_i32_93
  let c1_i32_95 : BitVec 32 := 1#32
  let v115 : BitVec 32 := Scalar.muli v114 c1_i32_95
  let v116 : BitVec 32 := Scalar.addi c0_i32_96 v115
  v116.toNat
def k0_dev15 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_102 : BitVec 32 := 1#32
  let v127 : BitVec 32 := Scalar.xori v2 c1_i32_102
  let c1_i32_105 : BitVec 32 := 1#32
  let v128 : BitVec 32 := Scalar.muli v127 c1_i32_105
  let v129 : BitVec 32 := Scalar.addi c0_i32_106 v128
  v129.toNat
def k0_dev16 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_113 : BitVec 32 := 2#32
  let v140 : BitVec 32 := Scalar.xori v2 c2_i32_113
  let c1_i32_116 : BitVec 32 := 1#32
  let v141 : BitVec 32 := Scalar.muli v140 c1_i32_116
  let v142 : BitVec 32 := Scalar.addi c0_i32_117 v141
  v142.toNat
def k0_dev17 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_124 : BitVec 32 := 3#32
  let v153 : BitVec 32 := Scalar.xori v2 c3_i32_124
  let c1_i32_127 : BitVec 32 := 1#32
  let v154 : BitVec 32 := Scalar.muli v153 c1_i32_127
  let v155 : BitVec 32 := Scalar.addi c0_i32_128 v154
  v155.toNat
def k0_dev18 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_135 : BitVec 32 := 4#32
  let v166 : BitVec 32 := Scalar.xori v2 c4_i32_135
  let c1_i32_138 : BitVec 32 := 1#32
  let v167 : BitVec 32 := Scalar.muli v166 c1_i32_138
  let v168 : BitVec 32 := Scalar.addi c0_i32_139 v167
  v168.toNat
def k0_dev19 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_146 : BitVec 32 := 5#32
  let v179 : BitVec 32 := Scalar.xori v2 c5_i32_146
  let c1_i32_148 : BitVec 32 := 1#32
  let v180 : BitVec 32 := Scalar.muli v179 c1_i32_148
  let v181 : BitVec 32 := Scalar.addi c0_i32_149 v180
  v181.toNat
def k0_dev20 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_156 : BitVec 32 := 6#32
  let v192 : BitVec 32 := Scalar.xori v2 c6_i32_156
  let c1_i32_158 : BitVec 32 := 1#32
  let v193 : BitVec 32 := Scalar.muli v192 c1_i32_158
  let v194 : BitVec 32 := Scalar.addi c0_i32_159 v193
  v194.toNat
def k0_dev21 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_166 : BitVec 32 := 7#32
  let v205 : BitVec 32 := Scalar.xori v2 c7_i32_166
  let c1_i32_168 : BitVec 32 := 1#32
  let v206 : BitVec 32 := Scalar.muli v205 c1_i32_168
  let v207 : BitVec 32 := Scalar.addi c0_i32_169 v206
  v207.toNat
def k0_off3 (d0 : Dev nD) (c1_i32_180 : BitVec 32) (c0_i32_188 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v225 : BitVec 32 := Scalar.xori v2 c1_i32_180
  let c256_i32_187 : BitVec 32 := 256#32
  let v232 : BitVec 32 := Scalar.muli v225 c256_i32_187
  let v233 : BitVec 32 := Scalar.addi v232 c0_i32_188
  let v234 : Index := Scalar.indexCast v233
  let c0_189 : Index := 0#32
  ![v234.toNat, 0]
def k0_off4 (d0 : Dev nD) (c1_i32_180 : BitVec 32) (c0_i32_194 : BitVec 32) : Fin 3 → Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v225 : BitVec 32 := Scalar.xori v2 c1_i32_180
  let c256_i32_193 : BitVec 32 := 256#32
  let v242 : BitVec 32 := Scalar.muli v225 c256_i32_193
  let v243 : BitVec 32 := Scalar.addi v242 c0_i32_194
  let v246 : Index := Scalar.indexCast v243
  let c0_i32_197 : BitVec 32 := 0#32
  ![0, v246.toNat, 0]
def k0_off5 (d0 : Dev nD) (c1_i32_180 : BitVec 32) (c0_i32_200 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v225 : BitVec 32 := Scalar.xori v2 c1_i32_180
  let c256_i32_199 : BitVec 32 := 256#32
  let v250 : BitVec 32 := Scalar.muli v225 c256_i32_199
  let v251 : BitVec 32 := Scalar.addi v250 c0_i32_200
  let c0_i32_211 : BitVec 32 := 0#32
  ![v251.toNat, 0]
def k0_off6 (d0 : Dev nD) (c1_i32_180 : BitVec 32) (c0_i32_200 : BitVec 32) : Fin 3 → Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v225 : BitVec 32 := Scalar.xori v2 c1_i32_180
  let c256_i32_199 : BitVec 32 := 256#32
  let v250 : BitVec 32 := Scalar.muli v225 c256_i32_199
  let v251 : BitVec 32 := Scalar.addi v250 c0_i32_200
  let c0_i32_210 : BitVec 32 := 0#32
  ![0, v251.toNat, 0]
def k0_dev22 (d0 : Dev nD) : Nat :=
  let c0_i32_206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_180 : BitVec 32 := 1#32
  let v225 : BitVec 32 := Scalar.xori v2 c1_i32_180
  let c1_i32_205 : BitVec 32 := 1#32
  let v252 : BitVec 32 := Scalar.muli v225 c1_i32_205
  let v253 : BitVec 32 := Scalar.addi c0_i32_206 v252
  v253.toNat
def k0_dev23 (d0 : Dev nD) : Nat :=
  let c0_i32_237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_180 : BitVec 32 := 1#32
  let v225 : BitVec 32 := Scalar.xori v2 c1_i32_180
  let c1_i32_236 : BitVec 32 := 1#32
  let v289 : BitVec 32 := Scalar.muli v225 c1_i32_236
  let v290 : BitVec 32 := Scalar.addi c0_i32_237 v289
  v290.toNat
def k0_dev24 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_243 : BitVec 32 := 3#32
  let v300 : BitVec 32 := Scalar.xori v2 c3_i32_243
  let c1_i32_268 : BitVec 32 := 1#32
  let v327 : BitVec 32 := Scalar.muli v300 c1_i32_268
  let v328 : BitVec 32 := Scalar.addi c0_i32_269 v327
  v328.toNat
def k0_dev25 (d0 : Dev nD) : Nat :=
  let c0_i32_300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_243 : BitVec 32 := 3#32
  let v300 : BitVec 32 := Scalar.xori v2 c3_i32_243
  let c1_i32_299 : BitVec 32 := 1#32
  let v364 : BitVec 32 := Scalar.muli v300 c1_i32_299
  let v365 : BitVec 32 := Scalar.addi c0_i32_300 v364
  v365.toNat
def k0_dev26 (d0 : Dev nD) : Nat :=
  let c0_i32_332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_306 : BitVec 32 := 4#32
  let v375 : BitVec 32 := Scalar.xori v2 c4_i32_306
  let c1_i32_331 : BitVec 32 := 1#32
  let v402 : BitVec 32 := Scalar.muli v375 c1_i32_331
  let v403 : BitVec 32 := Scalar.addi c0_i32_332 v402
  v403.toNat
def k0_dev27 (d0 : Dev nD) : Nat :=
  let c0_i32_363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_306 : BitVec 32 := 4#32
  let v375 : BitVec 32 := Scalar.xori v2 c4_i32_306
  let c1_i32_362 : BitVec 32 := 1#32
  let v439 : BitVec 32 := Scalar.muli v375 c1_i32_362
  let v440 : BitVec 32 := Scalar.addi c0_i32_363 v439
  v440.toNat
def k0_dev28 (d0 : Dev nD) : Nat :=
  let c0_i32_395 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_369 : BitVec 32 := 2#32
  let v450 : BitVec 32 := Scalar.xori v2 c2_i32_369
  let c1_i32_394 : BitVec 32 := 1#32
  let v477 : BitVec 32 := Scalar.muli v450 c1_i32_394
  let v478 : BitVec 32 := Scalar.addi c0_i32_395 v477
  v478.toNat
def k0_dev29 (d0 : Dev nD) : Nat :=
  let c0_i32_426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_369 : BitVec 32 := 2#32
  let v450 : BitVec 32 := Scalar.xori v2 c2_i32_369
  let c1_i32_425 : BitVec 32 := 1#32
  let v514 : BitVec 32 := Scalar.muli v450 c1_i32_425
  let v515 : BitVec 32 := Scalar.addi c0_i32_426 v514
  v515.toNat
def k0_dev30 (d0 : Dev nD) : Nat :=
  let c0_i32_458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_432 : BitVec 32 := 5#32
  let v525 : BitVec 32 := Scalar.xori v2 c5_i32_432
  let c1_i32_457 : BitVec 32 := 1#32
  let v552 : BitVec 32 := Scalar.muli v525 c1_i32_457
  let v553 : BitVec 32 := Scalar.addi c0_i32_458 v552
  v553.toNat
def k0_dev31 (d0 : Dev nD) : Nat :=
  let c0_i32_489 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_432 : BitVec 32 := 5#32
  let v525 : BitVec 32 := Scalar.xori v2 c5_i32_432
  let c1_i32_488 : BitVec 32 := 1#32
  let v589 : BitVec 32 := Scalar.muli v525 c1_i32_488
  let v590 : BitVec 32 := Scalar.addi c0_i32_489 v589
  v590.toNat
def k0_dev32 (d0 : Dev nD) : Nat :=
  let c0_i32_521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_495 : BitVec 32 := 7#32
  let v600 : BitVec 32 := Scalar.xori v2 c7_i32_495
  let c1_i32_520 : BitVec 32 := 1#32
  let v627 : BitVec 32 := Scalar.muli v600 c1_i32_520
  let v628 : BitVec 32 := Scalar.addi c0_i32_521 v627
  v628.toNat
def k0_dev33 (d0 : Dev nD) : Nat :=
  let c0_i32_552 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_495 : BitVec 32 := 7#32
  let v600 : BitVec 32 := Scalar.xori v2 c7_i32_495
  let c1_i32_551 : BitVec 32 := 1#32
  let v664 : BitVec 32 := Scalar.muli v600 c1_i32_551
  let v665 : BitVec 32 := Scalar.addi c0_i32_552 v664
  v665.toNat
def k0_dev34 (d0 : Dev nD) : Nat :=
  let c0_i32_584 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_558 : BitVec 32 := 6#32
  let v675 : BitVec 32 := Scalar.xori v2 c6_i32_558
  let c1_i32_583 : BitVec 32 := 1#32
  let v702 : BitVec 32 := Scalar.muli v675 c1_i32_583
  let v703 : BitVec 32 := Scalar.addi c0_i32_584 v702
  v703.toNat
def k0_dev35 (d0 : Dev nD) : Nat :=
  let c0_i32_615 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_558 : BitVec 32 := 6#32
  let v675 : BitVec 32 := Scalar.xori v2 c6_i32_558
  let c1_i32_614 : BitVec 32 := 1#32
  let v739 : BitVec 32 := Scalar.muli v675 c1_i32_614
  let v740 : BitVec 32 := Scalar.addi c0_i32_615 v739
  v740.toNat
def k0_off7 (d0 : Dev nD) (c0_i32_727 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_726 : BitVec 32 := 256#32
  let v843 : BitVec 32 := Scalar.muli v2 c256_i32_726
  let v844 : BitVec 32 := Scalar.addi v843 c0_i32_727
  let v847 : Index := Scalar.indexCast v844
  let c0_731 : Index := 0#32
  ![v847.toNat, 0]
def k0_off8 (d0 : Dev nD) (c0_i32_727 : BitVec 32) : Fin 3 → Nat :=
  let c0_i32_728 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_726 : BitVec 32 := 256#32
  let v843 : BitVec 32 := Scalar.muli v2 c256_i32_726
  let v844 : BitVec 32 := Scalar.addi v843 c0_i32_727
  let v847 : Index := Scalar.indexCast v844
  let c0_i32_730 : BitVec 32 := 0#32
  ![0, v847.toNat, 0]
def k0_off9 (d0 : Dev nD) (c0_i32_733 : BitVec 32) : Fin 3 → Nat :=
  let c0_i32_737 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_732 : BitVec 32 := 256#32
  let v851 : BitVec 32 := Scalar.muli v2 c256_i32_732
  let v852 : BitVec 32 := Scalar.addi v851 c0_i32_733
  let c0_i32_746 : BitVec 32 := 0#32
  ![0, v852.toNat, 0]
def k0_dev36 (d0 : Dev nD) : Nat :=
  let c0_i32_741 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_736 : BitVec 32 := 1#32
  let v855 : BitVec 32 := Scalar.xori v2 c1_i32_736
  let c1_i32_740 : BitVec 32 := 1#32
  let v856 : BitVec 32 := Scalar.muli v855 c1_i32_740
  let v857 : BitVec 32 := Scalar.addi c0_i32_741 v856
  v857.toNat
def k0_dev37 (d0 : Dev nD) : Nat :=
  let c0_i32_757 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_752 : BitVec 32 := 2#32
  let v872 : BitVec 32 := Scalar.xori v2 c2_i32_752
  let c1_i32_756 : BitVec 32 := 1#32
  let v873 : BitVec 32 := Scalar.muli v872 c1_i32_756
  let v874 : BitVec 32 := Scalar.addi c0_i32_757 v873
  v874.toNat
def k0_dev38 (d0 : Dev nD) : Nat :=
  let c0_i32_773 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_768 : BitVec 32 := 3#32
  let v889 : BitVec 32 := Scalar.xori v2 c3_i32_768
  let c1_i32_772 : BitVec 32 := 1#32
  let v890 : BitVec 32 := Scalar.muli v889 c1_i32_772
  let v891 : BitVec 32 := Scalar.addi c0_i32_773 v890
  v891.toNat
def k0_dev39 (d0 : Dev nD) : Nat :=
  let c0_i32_789 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_784 : BitVec 32 := 4#32
  let v906 : BitVec 32 := Scalar.xori v2 c4_i32_784
  let c1_i32_788 : BitVec 32 := 1#32
  let v907 : BitVec 32 := Scalar.muli v906 c1_i32_788
  let v908 : BitVec 32 := Scalar.addi c0_i32_789 v907
  v908.toNat
def k0_dev40 (d0 : Dev nD) : Nat :=
  let c0_i32_805 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_800 : BitVec 32 := 5#32
  let v923 : BitVec 32 := Scalar.xori v2 c5_i32_800
  let c1_i32_804 : BitVec 32 := 1#32
  let v924 : BitVec 32 := Scalar.muli v923 c1_i32_804
  let v925 : BitVec 32 := Scalar.addi c0_i32_805 v924
  v925.toNat
def k0_dev41 (d0 : Dev nD) : Nat :=
  let c0_i32_821 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_816 : BitVec 32 := 6#32
  let v940 : BitVec 32 := Scalar.xori v2 c6_i32_816
  let c1_i32_820 : BitVec 32 := 1#32
  let v941 : BitVec 32 := Scalar.muli v940 c1_i32_820
  let v942 : BitVec 32 := Scalar.addi c0_i32_821 v941
  v942.toNat
def k0_dev42 (d0 : Dev nD) : Nat :=
  let c0_i32_837 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_832 : BitVec 32 := 7#32
  let v957 : BitVec 32 := Scalar.xori v2 c7_i32_832
  let c1_i32_836 : BitVec 32 := 1#32
  let v958 : BitVec 32 := Scalar.muli v957 c1_i32_836
  let v959 : BitVec 32 := Scalar.addi c0_i32_837 v958
  v959.toNat
def k0_dev43 (d0 : Dev nD) : Nat :=
  let c0_i32_970 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_965 : BitVec 32 := 1#32
  let v1075 : BitVec 32 := Scalar.xori v2 c1_i32_965
  let c1_i32_969 : BitVec 32 := 1#32
  let v1076 : BitVec 32 := Scalar.muli v1075 c1_i32_969
  let v1077 : BitVec 32 := Scalar.addi c0_i32_970 v1076
  v1077.toNat
def k0_dev44 (d0 : Dev nD) : Nat :=
  let c0_i32_986 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_981 : BitVec 32 := 2#32
  let v1092 : BitVec 32 := Scalar.xori v2 c2_i32_981
  let c1_i32_985 : BitVec 32 := 1#32
  let v1093 : BitVec 32 := Scalar.muli v1092 c1_i32_985
  let v1094 : BitVec 32 := Scalar.addi c0_i32_986 v1093
  v1094.toNat
def k0_dev45 (d0 : Dev nD) : Nat :=
  let c0_i32_1002 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_997 : BitVec 32 := 3#32
  let v1109 : BitVec 32 := Scalar.xori v2 c3_i32_997
  let c1_i32_1001 : BitVec 32 := 1#32
  let v1110 : BitVec 32 := Scalar.muli v1109 c1_i32_1001
  let v1111 : BitVec 32 := Scalar.addi c0_i32_1002 v1110
  v1111.toNat
def k0_dev46 (d0 : Dev nD) : Nat :=
  let c0_i32_1018 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1013 : BitVec 32 := 4#32
  let v1126 : BitVec 32 := Scalar.xori v2 c4_i32_1013
  let c1_i32_1017 : BitVec 32 := 1#32
  let v1127 : BitVec 32 := Scalar.muli v1126 c1_i32_1017
  let v1128 : BitVec 32 := Scalar.addi c0_i32_1018 v1127
  v1128.toNat
def k0_dev47 (d0 : Dev nD) : Nat :=
  let c0_i32_1034 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1029 : BitVec 32 := 5#32
  let v1143 : BitVec 32 := Scalar.xori v2 c5_i32_1029
  let c1_i32_1033 : BitVec 32 := 1#32
  let v1144 : BitVec 32 := Scalar.muli v1143 c1_i32_1033
  let v1145 : BitVec 32 := Scalar.addi c0_i32_1034 v1144
  v1145.toNat
def k0_dev48 (d0 : Dev nD) : Nat :=
  let c0_i32_1050 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1045 : BitVec 32 := 6#32
  let v1160 : BitVec 32 := Scalar.xori v2 c6_i32_1045
  let c1_i32_1049 : BitVec 32 := 1#32
  let v1161 : BitVec 32 := Scalar.muli v1160 c1_i32_1049
  let v1162 : BitVec 32 := Scalar.addi c0_i32_1050 v1161
  v1162.toNat
def k0_dev49 (d0 : Dev nD) : Nat :=
  let c0_i32_1066 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1061 : BitVec 32 := 7#32
  let v1177 : BitVec 32 := Scalar.xori v2 c7_i32_1061
  let c1_i32_1065 : BitVec 32 := 1#32
  let v1178 : BitVec 32 := Scalar.muli v1177 c1_i32_1065
  let v1179 : BitVec 32 := Scalar.addi c0_i32_1066 v1178
  v1179.toNat
def k0_off10 (d0 : Dev nD) (c1_i32_1084 : BitVec 32) (c0_i32_1107 : BitVec 32) : Fin 3 → Nat :=
  let c1_i32_1108 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1203 : BitVec 32 := Scalar.xori v2 c1_i32_1084
  let c256_i32_1106 : BitVec 32 := 256#32
  let v1226 : BitVec 32 := Scalar.muli v1203 c256_i32_1106
  let v1227 : BitVec 32 := Scalar.addi v1226 c0_i32_1107
  let v1230 : Index := Scalar.indexCast v1227
  let c0_i32_1110 : BitVec 32 := 0#32
  ![1, v1230.toNat, 0]
def k0_off11 (d0 : Dev nD) (c1_i32_1084 : BitVec 32) (c0_i32_1113 : BitVec 32) : Fin 3 → Nat :=
  let c1_i32_1114 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1203 : BitVec 32 := Scalar.xori v2 c1_i32_1084
  let c256_i32_1112 : BitVec 32 := 256#32
  let v1234 : BitVec 32 := Scalar.muli v1203 c256_i32_1112
  let v1235 : BitVec 32 := Scalar.addi v1234 c0_i32_1113
  let c0_i32_1123 : BitVec 32 := 0#32
  ![1, v1235.toNat, 0]
def k0_dev50 (d0 : Dev nD) : Nat :=
  let c0_i32_1119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1084 : BitVec 32 := 1#32
  let v1203 : BitVec 32 := Scalar.xori v2 c1_i32_1084
  let c1_i32_1118 : BitVec 32 := 1#32
  let v1236 : BitVec 32 := Scalar.muli v1203 c1_i32_1118
  let v1237 : BitVec 32 := Scalar.addi c0_i32_1119 v1236
  v1237.toNat
def k0_dev51 (d0 : Dev nD) : Nat :=
  let c0_i32_1159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1084 : BitVec 32 := 1#32
  let v1203 : BitVec 32 := Scalar.xori v2 c1_i32_1084
  let c1_i32_1158 : BitVec 32 := 1#32
  let v1279 : BitVec 32 := Scalar.muli v1203 c1_i32_1158
  let v1280 : BitVec 32 := Scalar.addi c0_i32_1159 v1279
  v1280.toNat
def k0_dev52 (d0 : Dev nD) : Nat :=
  let c0_i32_1200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1165 : BitVec 32 := 3#32
  let v1290 : BitVec 32 := Scalar.xori v2 c3_i32_1165
  let c1_i32_1199 : BitVec 32 := 1#32
  let v1323 : BitVec 32 := Scalar.muli v1290 c1_i32_1199
  let v1324 : BitVec 32 := Scalar.addi c0_i32_1200 v1323
  v1324.toNat
def k0_dev53 (d0 : Dev nD) : Nat :=
  let c0_i32_1240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1165 : BitVec 32 := 3#32
  let v1290 : BitVec 32 := Scalar.xori v2 c3_i32_1165
  let c1_i32_1239 : BitVec 32 := 1#32
  let v1366 : BitVec 32 := Scalar.muli v1290 c1_i32_1239
  let v1367 : BitVec 32 := Scalar.addi c0_i32_1240 v1366
  v1367.toNat
def k0_dev54 (d0 : Dev nD) : Nat :=
  let c0_i32_1281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1246 : BitVec 32 := 4#32
  let v1377 : BitVec 32 := Scalar.xori v2 c4_i32_1246
  let c1_i32_1280 : BitVec 32 := 1#32
  let v1410 : BitVec 32 := Scalar.muli v1377 c1_i32_1280
  let v1411 : BitVec 32 := Scalar.addi c0_i32_1281 v1410
  v1411.toNat
def k0_dev55 (d0 : Dev nD) : Nat :=
  let c0_i32_1321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1246 : BitVec 32 := 4#32
  let v1377 : BitVec 32 := Scalar.xori v2 c4_i32_1246
  let c1_i32_1320 : BitVec 32 := 1#32
  let v1453 : BitVec 32 := Scalar.muli v1377 c1_i32_1320
  let v1454 : BitVec 32 := Scalar.addi c0_i32_1321 v1453
  v1454.toNat
def k0_dev56 (d0 : Dev nD) : Nat :=
  let c0_i32_1362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1327 : BitVec 32 := 2#32
  let v1464 : BitVec 32 := Scalar.xori v2 c2_i32_1327
  let c1_i32_1361 : BitVec 32 := 1#32
  let v1497 : BitVec 32 := Scalar.muli v1464 c1_i32_1361
  let v1498 : BitVec 32 := Scalar.addi c0_i32_1362 v1497
  v1498.toNat
def k0_dev57 (d0 : Dev nD) : Nat :=
  let c0_i32_1402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1327 : BitVec 32 := 2#32
  let v1464 : BitVec 32 := Scalar.xori v2 c2_i32_1327
  let c1_i32_1401 : BitVec 32 := 1#32
  let v1540 : BitVec 32 := Scalar.muli v1464 c1_i32_1401
  let v1541 : BitVec 32 := Scalar.addi c0_i32_1402 v1540
  v1541.toNat
def k0_dev58 (d0 : Dev nD) : Nat :=
  let c0_i32_1443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1408 : BitVec 32 := 5#32
  let v1551 : BitVec 32 := Scalar.xori v2 c5_i32_1408
  let c1_i32_1442 : BitVec 32 := 1#32
  let v1584 : BitVec 32 := Scalar.muli v1551 c1_i32_1442
  let v1585 : BitVec 32 := Scalar.addi c0_i32_1443 v1584
  v1585.toNat
def k0_dev59 (d0 : Dev nD) : Nat :=
  let c0_i32_1483 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1408 : BitVec 32 := 5#32
  let v1551 : BitVec 32 := Scalar.xori v2 c5_i32_1408
  let c1_i32_1482 : BitVec 32 := 1#32
  let v1627 : BitVec 32 := Scalar.muli v1551 c1_i32_1482
  let v1628 : BitVec 32 := Scalar.addi c0_i32_1483 v1627
  v1628.toNat
def k0_dev60 (d0 : Dev nD) : Nat :=
  let c0_i32_1524 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1489 : BitVec 32 := 7#32
  let v1638 : BitVec 32 := Scalar.xori v2 c7_i32_1489
  let c1_i32_1523 : BitVec 32 := 1#32
  let v1671 : BitVec 32 := Scalar.muli v1638 c1_i32_1523
  let v1672 : BitVec 32 := Scalar.addi c0_i32_1524 v1671
  v1672.toNat
def k0_dev61 (d0 : Dev nD) : Nat :=
  let c0_i32_1564 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1489 : BitVec 32 := 7#32
  let v1638 : BitVec 32 := Scalar.xori v2 c7_i32_1489
  let c1_i32_1563 : BitVec 32 := 1#32
  let v1714 : BitVec 32 := Scalar.muli v1638 c1_i32_1563
  let v1715 : BitVec 32 := Scalar.addi c0_i32_1564 v1714
  v1715.toNat
def k0_dev62 (d0 : Dev nD) : Nat :=
  let c0_i32_1605 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1570 : BitVec 32 := 6#32
  let v1725 : BitVec 32 := Scalar.xori v2 c6_i32_1570
  let c1_i32_1604 : BitVec 32 := 1#32
  let v1758 : BitVec 32 := Scalar.muli v1725 c1_i32_1604
  let v1759 : BitVec 32 := Scalar.addi c0_i32_1605 v1758
  v1759.toNat
def k0_dev63 (d0 : Dev nD) : Nat :=
  let c0_i32_1645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1570 : BitVec 32 := 6#32
  let v1725 : BitVec 32 := Scalar.xori v2 c6_i32_1570
  let c1_i32_1644 : BitVec 32 := 1#32
  let v1801 : BitVec 32 := Scalar.muli v1725 c1_i32_1644
  let v1802 : BitVec 32 := Scalar.addi c0_i32_1645 v1801
  v1802.toNat
def k0_off12 (d0 : Dev nD) (c0_i32_1764 : BitVec 32) : Fin 3 → Nat :=
  let c1_i32_1765 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_1763 : BitVec 32 := 256#32
  let v1905 : BitVec 32 := Scalar.muli v2 c256_i32_1763
  let v1906 : BitVec 32 := Scalar.addi v1905 c0_i32_1764
  let v1909 : Index := Scalar.indexCast v1906
  let c0_i32_1767 : BitVec 32 := 0#32
  ![1, v1909.toNat, 0]
def k0_off13 (d0 : Dev nD) (c0_i32_1770 : BitVec 32) : Fin 3 → Nat :=
  let c1_i32_1774 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_1769 : BitVec 32 := 256#32
  let v1913 : BitVec 32 := Scalar.muli v2 c256_i32_1769
  let v1914 : BitVec 32 := Scalar.addi v1913 c0_i32_1770
  let c0_i32_1783 : BitVec 32 := 0#32
  ![1, v1914.toNat, 0]
def k0_dev64 (d0 : Dev nD) : Nat :=
  let c0_i32_1778 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1773 : BitVec 32 := 1#32
  let v1917 : BitVec 32 := Scalar.xori v2 c1_i32_1773
  let c1_i32_1777 : BitVec 32 := 1#32
  let v1918 : BitVec 32 := Scalar.muli v1917 c1_i32_1777
  let v1919 : BitVec 32 := Scalar.addi c0_i32_1778 v1918
  v1919.toNat
def k0_dev65 (d0 : Dev nD) : Nat :=
  let c0_i32_1794 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1789 : BitVec 32 := 2#32
  let v1934 : BitVec 32 := Scalar.xori v2 c2_i32_1789
  let c1_i32_1793 : BitVec 32 := 1#32
  let v1935 : BitVec 32 := Scalar.muli v1934 c1_i32_1793
  let v1936 : BitVec 32 := Scalar.addi c0_i32_1794 v1935
  v1936.toNat
def k0_dev66 (d0 : Dev nD) : Nat :=
  let c0_i32_1810 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1805 : BitVec 32 := 3#32
  let v1951 : BitVec 32 := Scalar.xori v2 c3_i32_1805
  let c1_i32_1809 : BitVec 32 := 1#32
  let v1952 : BitVec 32 := Scalar.muli v1951 c1_i32_1809
  let v1953 : BitVec 32 := Scalar.addi c0_i32_1810 v1952
  v1953.toNat
def k0_dev67 (d0 : Dev nD) : Nat :=
  let c0_i32_1826 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1821 : BitVec 32 := 4#32
  let v1968 : BitVec 32 := Scalar.xori v2 c4_i32_1821
  let c1_i32_1825 : BitVec 32 := 1#32
  let v1969 : BitVec 32 := Scalar.muli v1968 c1_i32_1825
  let v1970 : BitVec 32 := Scalar.addi c0_i32_1826 v1969
  v1970.toNat
def k0_dev68 (d0 : Dev nD) : Nat :=
  let c0_i32_1842 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1837 : BitVec 32 := 5#32
  let v1985 : BitVec 32 := Scalar.xori v2 c5_i32_1837
  let c1_i32_1841 : BitVec 32 := 1#32
  let v1986 : BitVec 32 := Scalar.muli v1985 c1_i32_1841
  let v1987 : BitVec 32 := Scalar.addi c0_i32_1842 v1986
  v1987.toNat
def k0_dev69 (d0 : Dev nD) : Nat :=
  let c0_i32_1858 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1853 : BitVec 32 := 6#32
  let v2002 : BitVec 32 := Scalar.xori v2 c6_i32_1853
  let c1_i32_1857 : BitVec 32 := 1#32
  let v2003 : BitVec 32 := Scalar.muli v2002 c1_i32_1857
  let v2004 : BitVec 32 := Scalar.addi c0_i32_1858 v2003
  v2004.toNat
def k0_dev70 (d0 : Dev nD) : Nat :=
  let c0_i32_1874 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1869 : BitVec 32 := 7#32
  let v2019 : BitVec 32 := Scalar.xori v2 c7_i32_1869
  let c1_i32_1873 : BitVec 32 := 1#32
  let v2020 : BitVec 32 := Scalar.muli v2019 c1_i32_1873
  let v2021 : BitVec 32 := Scalar.addi c0_i32_1874 v2020
  v2021.toNat
def k0_dev71 (d0 : Dev nD) : Nat :=
  let c0_i32_2008 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2003 : BitVec 32 := 1#32
  let v2137 : BitVec 32 := Scalar.xori v2 c1_i32_2003
  let c1_i32_2007 : BitVec 32 := 1#32
  let v2138 : BitVec 32 := Scalar.muli v2137 c1_i32_2007
  let v2139 : BitVec 32 := Scalar.addi c0_i32_2008 v2138
  v2139.toNat
def k0_dev72 (d0 : Dev nD) : Nat :=
  let c0_i32_2024 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2019 : BitVec 32 := 2#32
  let v2154 : BitVec 32 := Scalar.xori v2 c2_i32_2019
  let c1_i32_2023 : BitVec 32 := 1#32
  let v2155 : BitVec 32 := Scalar.muli v2154 c1_i32_2023
  let v2156 : BitVec 32 := Scalar.addi c0_i32_2024 v2155
  v2156.toNat
def k0_dev73 (d0 : Dev nD) : Nat :=
  let c0_i32_2040 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2035 : BitVec 32 := 3#32
  let v2171 : BitVec 32 := Scalar.xori v2 c3_i32_2035
  let c1_i32_2039 : BitVec 32 := 1#32
  let v2172 : BitVec 32 := Scalar.muli v2171 c1_i32_2039
  let v2173 : BitVec 32 := Scalar.addi c0_i32_2040 v2172
  v2173.toNat
def k0_dev74 (d0 : Dev nD) : Nat :=
  let c0_i32_2056 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2051 : BitVec 32 := 4#32
  let v2188 : BitVec 32 := Scalar.xori v2 c4_i32_2051
  let c1_i32_2055 : BitVec 32 := 1#32
  let v2189 : BitVec 32 := Scalar.muli v2188 c1_i32_2055
  let v2190 : BitVec 32 := Scalar.addi c0_i32_2056 v2189
  v2190.toNat
def k0_dev75 (d0 : Dev nD) : Nat :=
  let c0_i32_2072 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2067 : BitVec 32 := 5#32
  let v2205 : BitVec 32 := Scalar.xori v2 c5_i32_2067
  let c1_i32_2071 : BitVec 32 := 1#32
  let v2206 : BitVec 32 := Scalar.muli v2205 c1_i32_2071
  let v2207 : BitVec 32 := Scalar.addi c0_i32_2072 v2206
  v2207.toNat
def k0_dev76 (d0 : Dev nD) : Nat :=
  let c0_i32_2088 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2083 : BitVec 32 := 6#32
  let v2222 : BitVec 32 := Scalar.xori v2 c6_i32_2083
  let c1_i32_2087 : BitVec 32 := 1#32
  let v2223 : BitVec 32 := Scalar.muli v2222 c1_i32_2087
  let v2224 : BitVec 32 := Scalar.addi c0_i32_2088 v2223
  v2224.toNat
def k0_dev77 (d0 : Dev nD) : Nat :=
  let c0_i32_2104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2099 : BitVec 32 := 7#32
  let v2239 : BitVec 32 := Scalar.xori v2 c7_i32_2099
  let c1_i32_2103 : BitVec 32 := 1#32
  let v2240 : BitVec 32 := Scalar.muli v2239 c1_i32_2103
  let v2241 : BitVec 32 := Scalar.addi c0_i32_2104 v2240
  v2241.toNat
def k0_off14 (d0 : Dev nD) (c1_i32_2122 : BitVec 32) (c0_i32_2145 : BitVec 32) : Fin 3 → Nat :=
  let c2_i32_2146 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2265 : BitVec 32 := Scalar.xori v2 c1_i32_2122
  let c256_i32_2144 : BitVec 32 := 256#32
  let v2288 : BitVec 32 := Scalar.muli v2265 c256_i32_2144
  let v2289 : BitVec 32 := Scalar.addi v2288 c0_i32_2145
  let v2292 : Index := Scalar.indexCast v2289
  let c0_i32_2148 : BitVec 32 := 0#32
  ![2, v2292.toNat, 0]
def k0_off15 (d0 : Dev nD) (c1_i32_2122 : BitVec 32) (c0_i32_2151 : BitVec 32) : Fin 3 → Nat :=
  let c2_i32_2152 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2265 : BitVec 32 := Scalar.xori v2 c1_i32_2122
  let c256_i32_2150 : BitVec 32 := 256#32
  let v2296 : BitVec 32 := Scalar.muli v2265 c256_i32_2150
  let v2297 : BitVec 32 := Scalar.addi v2296 c0_i32_2151
  let c0_i32_2161 : BitVec 32 := 0#32
  ![2, v2297.toNat, 0]
def k0_dev78 (d0 : Dev nD) : Nat :=
  let c0_i32_2157 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2122 : BitVec 32 := 1#32
  let v2265 : BitVec 32 := Scalar.xori v2 c1_i32_2122
  let c1_i32_2156 : BitVec 32 := 1#32
  let v2298 : BitVec 32 := Scalar.muli v2265 c1_i32_2156
  let v2299 : BitVec 32 := Scalar.addi c0_i32_2157 v2298
  v2299.toNat
def k0_dev79 (d0 : Dev nD) : Nat :=
  let c0_i32_2197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2122 : BitVec 32 := 1#32
  let v2265 : BitVec 32 := Scalar.xori v2 c1_i32_2122
  let c1_i32_2196 : BitVec 32 := 1#32
  let v2341 : BitVec 32 := Scalar.muli v2265 c1_i32_2196
  let v2342 : BitVec 32 := Scalar.addi c0_i32_2197 v2341
  v2342.toNat
def k0_dev80 (d0 : Dev nD) : Nat :=
  let c0_i32_2238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2203 : BitVec 32 := 3#32
  let v2352 : BitVec 32 := Scalar.xori v2 c3_i32_2203
  let c1_i32_2237 : BitVec 32 := 1#32
  let v2385 : BitVec 32 := Scalar.muli v2352 c1_i32_2237
  let v2386 : BitVec 32 := Scalar.addi c0_i32_2238 v2385
  v2386.toNat
def k0_dev81 (d0 : Dev nD) : Nat :=
  let c0_i32_2278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2203 : BitVec 32 := 3#32
  let v2352 : BitVec 32 := Scalar.xori v2 c3_i32_2203
  let c1_i32_2277 : BitVec 32 := 1#32
  let v2428 : BitVec 32 := Scalar.muli v2352 c1_i32_2277
  let v2429 : BitVec 32 := Scalar.addi c0_i32_2278 v2428
  v2429.toNat
def k0_dev82 (d0 : Dev nD) : Nat :=
  let c0_i32_2319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2284 : BitVec 32 := 4#32
  let v2439 : BitVec 32 := Scalar.xori v2 c4_i32_2284
  let c1_i32_2318 : BitVec 32 := 1#32
  let v2472 : BitVec 32 := Scalar.muli v2439 c1_i32_2318
  let v2473 : BitVec 32 := Scalar.addi c0_i32_2319 v2472
  v2473.toNat
def k0_dev83 (d0 : Dev nD) : Nat :=
  let c0_i32_2359 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2284 : BitVec 32 := 4#32
  let v2439 : BitVec 32 := Scalar.xori v2 c4_i32_2284
  let c1_i32_2358 : BitVec 32 := 1#32
  let v2515 : BitVec 32 := Scalar.muli v2439 c1_i32_2358
  let v2516 : BitVec 32 := Scalar.addi c0_i32_2359 v2515
  v2516.toNat
def k0_dev84 (d0 : Dev nD) : Nat :=
  let c0_i32_2400 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2365 : BitVec 32 := 2#32
  let v2526 : BitVec 32 := Scalar.xori v2 c2_i32_2365
  let c1_i32_2399 : BitVec 32 := 1#32
  let v2559 : BitVec 32 := Scalar.muli v2526 c1_i32_2399
  let v2560 : BitVec 32 := Scalar.addi c0_i32_2400 v2559
  v2560.toNat
def k0_dev85 (d0 : Dev nD) : Nat :=
  let c0_i32_2440 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2365 : BitVec 32 := 2#32
  let v2526 : BitVec 32 := Scalar.xori v2 c2_i32_2365
  let c1_i32_2439 : BitVec 32 := 1#32
  let v2602 : BitVec 32 := Scalar.muli v2526 c1_i32_2439
  let v2603 : BitVec 32 := Scalar.addi c0_i32_2440 v2602
  v2603.toNat
def k0_dev86 (d0 : Dev nD) : Nat :=
  let c0_i32_2481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2446 : BitVec 32 := 5#32
  let v2613 : BitVec 32 := Scalar.xori v2 c5_i32_2446
  let c1_i32_2480 : BitVec 32 := 1#32
  let v2646 : BitVec 32 := Scalar.muli v2613 c1_i32_2480
  let v2647 : BitVec 32 := Scalar.addi c0_i32_2481 v2646
  v2647.toNat
def k0_dev87 (d0 : Dev nD) : Nat :=
  let c0_i32_2521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2446 : BitVec 32 := 5#32
  let v2613 : BitVec 32 := Scalar.xori v2 c5_i32_2446
  let c1_i32_2520 : BitVec 32 := 1#32
  let v2689 : BitVec 32 := Scalar.muli v2613 c1_i32_2520
  let v2690 : BitVec 32 := Scalar.addi c0_i32_2521 v2689
  v2690.toNat
def k0_dev88 (d0 : Dev nD) : Nat :=
  let c0_i32_2562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2527 : BitVec 32 := 7#32
  let v2700 : BitVec 32 := Scalar.xori v2 c7_i32_2527
  let c1_i32_2561 : BitVec 32 := 1#32
  let v2733 : BitVec 32 := Scalar.muli v2700 c1_i32_2561
  let v2734 : BitVec 32 := Scalar.addi c0_i32_2562 v2733
  v2734.toNat
def k0_dev89 (d0 : Dev nD) : Nat :=
  let c0_i32_2602 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2527 : BitVec 32 := 7#32
  let v2700 : BitVec 32 := Scalar.xori v2 c7_i32_2527
  let c1_i32_2601 : BitVec 32 := 1#32
  let v2776 : BitVec 32 := Scalar.muli v2700 c1_i32_2601
  let v2777 : BitVec 32 := Scalar.addi c0_i32_2602 v2776
  v2777.toNat
def k0_dev90 (d0 : Dev nD) : Nat :=
  let c0_i32_2643 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2608 : BitVec 32 := 6#32
  let v2787 : BitVec 32 := Scalar.xori v2 c6_i32_2608
  let c1_i32_2642 : BitVec 32 := 1#32
  let v2820 : BitVec 32 := Scalar.muli v2787 c1_i32_2642
  let v2821 : BitVec 32 := Scalar.addi c0_i32_2643 v2820
  v2821.toNat
def k0_dev91 (d0 : Dev nD) : Nat :=
  let c0_i32_2683 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2608 : BitVec 32 := 6#32
  let v2787 : BitVec 32 := Scalar.xori v2 c6_i32_2608
  let c1_i32_2682 : BitVec 32 := 1#32
  let v2863 : BitVec 32 := Scalar.muli v2787 c1_i32_2682
  let v2864 : BitVec 32 := Scalar.addi c0_i32_2683 v2863
  v2864.toNat
def k0_off16 (d0 : Dev nD) (c0_i32_2802 : BitVec 32) : Fin 3 → Nat :=
  let c2_i32_2803 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_2801 : BitVec 32 := 256#32
  let v2967 : BitVec 32 := Scalar.muli v2 c256_i32_2801
  let v2968 : BitVec 32 := Scalar.addi v2967 c0_i32_2802
  let v2971 : Index := Scalar.indexCast v2968
  let c0_i32_2805 : BitVec 32 := 0#32
  ![2, v2971.toNat, 0]
def k0_off17 (d0 : Dev nD) (c0_i32_2808 : BitVec 32) : Fin 3 → Nat :=
  let c2_i32_2812 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_2807 : BitVec 32 := 256#32
  let v2975 : BitVec 32 := Scalar.muli v2 c256_i32_2807
  let v2976 : BitVec 32 := Scalar.addi v2975 c0_i32_2808
  let c0_i32_2821 : BitVec 32 := 0#32
  ![2, v2976.toNat, 0]
def k0_dev92 (d0 : Dev nD) : Nat :=
  let c0_i32_2816 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2811 : BitVec 32 := 1#32
  let v2979 : BitVec 32 := Scalar.xori v2 c1_i32_2811
  let c1_i32_2815 : BitVec 32 := 1#32
  let v2980 : BitVec 32 := Scalar.muli v2979 c1_i32_2815
  let v2981 : BitVec 32 := Scalar.addi c0_i32_2816 v2980
  v2981.toNat
def k0_dev93 (d0 : Dev nD) : Nat :=
  let c0_i32_2832 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2827 : BitVec 32 := 2#32
  let v2996 : BitVec 32 := Scalar.xori v2 c2_i32_2827
  let c1_i32_2831 : BitVec 32 := 1#32
  let v2997 : BitVec 32 := Scalar.muli v2996 c1_i32_2831
  let v2998 : BitVec 32 := Scalar.addi c0_i32_2832 v2997
  v2998.toNat
def k0_dev94 (d0 : Dev nD) : Nat :=
  let c0_i32_2848 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2843 : BitVec 32 := 3#32
  let v3013 : BitVec 32 := Scalar.xori v2 c3_i32_2843
  let c1_i32_2847 : BitVec 32 := 1#32
  let v3014 : BitVec 32 := Scalar.muli v3013 c1_i32_2847
  let v3015 : BitVec 32 := Scalar.addi c0_i32_2848 v3014
  v3015.toNat
def k0_dev95 (d0 : Dev nD) : Nat :=
  let c0_i32_2864 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2859 : BitVec 32 := 4#32
  let v3030 : BitVec 32 := Scalar.xori v2 c4_i32_2859
  let c1_i32_2863 : BitVec 32 := 1#32
  let v3031 : BitVec 32 := Scalar.muli v3030 c1_i32_2863
  let v3032 : BitVec 32 := Scalar.addi c0_i32_2864 v3031
  v3032.toNat
def k0_dev96 (d0 : Dev nD) : Nat :=
  let c0_i32_2880 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2875 : BitVec 32 := 5#32
  let v3047 : BitVec 32 := Scalar.xori v2 c5_i32_2875
  let c1_i32_2879 : BitVec 32 := 1#32
  let v3048 : BitVec 32 := Scalar.muli v3047 c1_i32_2879
  let v3049 : BitVec 32 := Scalar.addi c0_i32_2880 v3048
  v3049.toNat
def k0_dev97 (d0 : Dev nD) : Nat :=
  let c0_i32_2896 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2891 : BitVec 32 := 6#32
  let v3064 : BitVec 32 := Scalar.xori v2 c6_i32_2891
  let c1_i32_2895 : BitVec 32 := 1#32
  let v3065 : BitVec 32 := Scalar.muli v3064 c1_i32_2895
  let v3066 : BitVec 32 := Scalar.addi c0_i32_2896 v3065
  v3066.toNat
def k0_dev98 (d0 : Dev nD) : Nat :=
  let c0_i32_2912 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2907 : BitVec 32 := 7#32
  let v3081 : BitVec 32 := Scalar.xori v2 c7_i32_2907
  let c1_i32_2911 : BitVec 32 := 1#32
  let v3082 : BitVec 32 := Scalar.muli v3081 c1_i32_2911
  let v3083 : BitVec 32 := Scalar.addi c0_i32_2912 v3082
  v3083.toNat
def k0_dev99 (d0 : Dev nD) : Nat :=
  let c0_i32_3046 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3041 : BitVec 32 := 1#32
  let v3199 : BitVec 32 := Scalar.xori v2 c1_i32_3041
  let c1_i32_3045 : BitVec 32 := 1#32
  let v3200 : BitVec 32 := Scalar.muli v3199 c1_i32_3045
  let v3201 : BitVec 32 := Scalar.addi c0_i32_3046 v3200
  v3201.toNat
def k0_dev100 (d0 : Dev nD) : Nat :=
  let c0_i32_3062 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_3057 : BitVec 32 := 2#32
  let v3216 : BitVec 32 := Scalar.xori v2 c2_i32_3057
  let c1_i32_3061 : BitVec 32 := 1#32
  let v3217 : BitVec 32 := Scalar.muli v3216 c1_i32_3061
  let v3218 : BitVec 32 := Scalar.addi c0_i32_3062 v3217
  v3218.toNat
def k0_dev101 (d0 : Dev nD) : Nat :=
  let c0_i32_3078 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3073 : BitVec 32 := 3#32
  let v3233 : BitVec 32 := Scalar.xori v2 c3_i32_3073
  let c1_i32_3077 : BitVec 32 := 1#32
  let v3234 : BitVec 32 := Scalar.muli v3233 c1_i32_3077
  let v3235 : BitVec 32 := Scalar.addi c0_i32_3078 v3234
  v3235.toNat
def k0_dev102 (d0 : Dev nD) : Nat :=
  let c0_i32_3094 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3089 : BitVec 32 := 4#32
  let v3250 : BitVec 32 := Scalar.xori v2 c4_i32_3089
  let c1_i32_3093 : BitVec 32 := 1#32
  let v3251 : BitVec 32 := Scalar.muli v3250 c1_i32_3093
  let v3252 : BitVec 32 := Scalar.addi c0_i32_3094 v3251
  v3252.toNat
def k0_dev103 (d0 : Dev nD) : Nat :=
  let c0_i32_3110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_3105 : BitVec 32 := 5#32
  let v3267 : BitVec 32 := Scalar.xori v2 c5_i32_3105
  let c1_i32_3109 : BitVec 32 := 1#32
  let v3268 : BitVec 32 := Scalar.muli v3267 c1_i32_3109
  let v3269 : BitVec 32 := Scalar.addi c0_i32_3110 v3268
  v3269.toNat
def k0_dev104 (d0 : Dev nD) : Nat :=
  let c0_i32_3126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3121 : BitVec 32 := 6#32
  let v3284 : BitVec 32 := Scalar.xori v2 c6_i32_3121
  let c1_i32_3125 : BitVec 32 := 1#32
  let v3285 : BitVec 32 := Scalar.muli v3284 c1_i32_3125
  let v3286 : BitVec 32 := Scalar.addi c0_i32_3126 v3285
  v3286.toNat
def k0_dev105 (d0 : Dev nD) : Nat :=
  let c0_i32_3142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_3137 : BitVec 32 := 7#32
  let v3301 : BitVec 32 := Scalar.xori v2 c7_i32_3137
  let c1_i32_3141 : BitVec 32 := 1#32
  let v3302 : BitVec 32 := Scalar.muli v3301 c1_i32_3141
  let v3303 : BitVec 32 := Scalar.addi c0_i32_3142 v3302
  v3303.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S2048x256 : Shape := ⟨2, ![2048, 256]⟩
abbrev S256x4096 : Shape := ⟨2, ![256, 4096]⟩
abbrev S4096x256 : Shape := ⟨2, ![4096, 256]⟩
abbrev S2048x4096 : Shape := ⟨2, ![2048, 4096]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S256x4096, .bf16⟩
  | .hbm, ⟨2, _⟩ => ⟨S256x4096, .bf16⟩
  | .hbm, ⟨3, _⟩ => ⟨S256x4096, .bf16⟩
  | .hbm, ⟨4, _⟩ => ⟨S4096x256, .bf16⟩
  | .hbm, ⟨5, _⟩ => ⟨S4096x256, .bf16⟩
  | .hbm, ⟨6, _⟩ => ⟨S4096x256, .bf16⟩
  | .hbm, ⟨7, _⟩ => ⟨S2048x256, .f32⟩
  | .hbm, ⟨8, _⟩ => ⟨S256x4096, .f32⟩
  | .hbm, ⟨9, _⟩ => ⟨S2048x4096, .f32⟩
  | .hbm, ⟨10, _⟩ => ⟨S2048x4096, .bf16⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S4096x256, .f32⟩
  | .hbm, ⟨16, _⟩ => ⟨S2048x256, .f32⟩
  | .hbm, ⟨17, _⟩ => ⟨S2048x256, .bf16⟩
  | .hbm, ⟨18, _⟩ => ⟨S2048x256, .f32⟩
  | .hbm, ⟨19, _⟩ => ⟨S256x4096, .f32⟩
  | .hbm, ⟨20, _⟩ => ⟨S2048x4096, .f32⟩
  | .hbm, ⟨21, _⟩ => ⟨S2048x4096, .bf16⟩
  | .hbm, ⟨22, _⟩ => ⟨S2048x4096, .f32⟩
  | .hbm, ⟨23, _⟩ => ⟨S_, .f32⟩
  | .hbm, ⟨24, _⟩ => ⟨S2048x4096, .f32⟩
  | .hbm, ⟨25, _⟩ => ⟨S2048x4096, .f32⟩
  | .hbm, ⟨26, _⟩ => ⟨S4096x256, .f32⟩
  | .hbm, ⟨27, _⟩ => ⟨S2048x256, .f32⟩
  | .hbm, ⟨28, _⟩ => ⟨S2048x256, .bf16⟩
  | .hbm, ⟨29, _⟩ => ⟨S2048x256, .f32⟩
  | .hbm, ⟨30, _⟩ => ⟨S256x4096, .f32⟩
  | .hbm, ⟨31, _⟩ => ⟨S2048x4096, .f32⟩
  | .hbm, ⟨32, _⟩ => ⟨S2048x4096, .bf16⟩
  | .hbm, ⟨33, _⟩ => ⟨S2048x4096, .f32⟩
  | .hbm, ⟨34, _⟩ => ⟨S_, .f32⟩
  | .hbm, ⟨35, _⟩ => ⟨S2048x4096, .f32⟩
  | .hbm, ⟨36, _⟩ => ⟨S2048x4096, .f32⟩
  | .hbm, ⟨37, _⟩ => ⟨S4096x256, .f32⟩
  | .hbm, ⟨38, _⟩ => ⟨S2048x256, .f32⟩
  | .hbm, ⟨39, _⟩ => ⟨S2048x256, .bf16⟩
  | .hbm, ⟨40, _⟩ => ⟨S2048x256, .f32⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Proof.Program.lean ====
module

public import proofs.«01_k».proof.Proof.Gen.KernelIdeal.Points

/-! # The kernel as loops

The printed body is a straight line of some thousand operations. Here is the same program as loops
over layers, peers and halves of a block of rows: `body_eq` says the two are one program. Every
later module reasons about the loops.

A TRANSFER is named by its phase `φ < 7`, the peer's number `r < 7` (the peer of device `c` is the
device whose number is `c` xor `r + 1`), and the half `h < 2` of the 256-row block. Even phases
gather (the layer's input, or the result of the last layer), odd ones scatter the partial products. -/

@[expose] public section

noncomputable section

namespace Cert.KernelIdeal.Mlp

open Idealize.ShloMosaic Idealize.SL.Sem Cert.KernelIdeal Cert.KernelIdeal.Gen

variable {F : FTy → Type} [FloatOps F]

/-! ## Rows, devices and semaphores, as the kernel computes them -/

/-- The word of the device's own number, as the kernel computes it. -/
def me (c : Dev nD) : BitVec 32 := Scalar.remsi (Scalar.divsi (Dev.word c) 1#32) 8#32

/-- The first row of half `h` of the device's own block. -/
def ownRow (c : Dev nD) (h : Fin 2) : ℕ :=
  (Scalar.addi (Scalar.muli (me c) 256#32) (BitVec.ofNat 32 (128 * h.val))).toNat

/-- The first row of half `h` of peer `r`'s block. -/
def peerRow (c : Dev nD) (r : Fin 7) (h : Fin 2) : ℕ :=
  (Scalar.addi (Scalar.muli (Scalar.xori (me c) (BitVec.ofNat 32 (1 + r.val))) 256#32)
    (BitVec.ofNat 32 (128 * h.val))).toNat

/-- Peer `r`'s number. -/
def peerNat (c : Dev nD) (r : Fin 7) : ℕ :=
  (Scalar.addi 0#32 (Scalar.muli (Scalar.xori (me c) (BitVec.ofNat 32 (1 + r.val))) 1#32)).toNat

theorem peerNat_lt : ∀ (c : Dev nD) (r : Fin 7), peerNat c r < nD := by decide +kernel

/-- Peer `r` of device `c`. -/
def peer (c : Dev nD) (r : Fin 7) : Dev nD := ⟨peerNat c r, peerNat_lt c r⟩

/-- The position of a transfer's two semaphores in their arrays. -/
def cellNat (φ r : Fin 7) (h : Fin 2) : ℕ := 14 * φ.val + 2 * r.val + h.val

theorem cell_inb : ∀ (φ r : Fin 7) (h : Fin 2), ∀ a, (![cellNat φ r h] : Fin 1 → ℕ) a + S1.size a ≤ S98.size a := by
  decide +kernel

/-- The semaphore of a transfer in the array `A`. -/
def semOf (A : DmaSems sig S98) (φ r : Fin 7) (h : Fin 2) : DmaSem sig :=
  ((A.slice (Rect.unit (s := S98) ![cellNat φ r h] S1.size (cell_inb φ r h))).squeeze S_ squeezes_S1_S_).sem

/-! ## The buffers -/

abbrev xfull : Memref sig .tc .vmem S2048x256 .bf16 := Memref.whole cc0_scratch0
abbrev xns : Memref sig .tc .vmem S3x2048x256 .bf16 := Memref.whole cc0_scratch1
abbrev sbufs : Memref sig .tc .vmem S3x2048x256 .bf16 := Memref.whole cc0_scratch2
abbrev rbufs : Memref sig .tc .vmem S3x8x256x256 .bf16 := Memref.whole cc0_scratch3

theorem ownRow_inb2 : ∀ (c : Dev nD) (h : Fin 2), ∀ a,
    (![ownRow c h, 0] : Fin 2 → ℕ) a + S128x256.size a ≤ S2048x256.size a := by decide +kernel
theorem peerRow_inb2 : ∀ (c : Dev nD) (r : Fin 7) (h : Fin 2), ∀ a,
    (![peerRow c r h, 0] : Fin 2 → ℕ) a + S128x256.size a ≤ S2048x256.size a := by decide +kernel
theorem ownRow_inb3 : ∀ (l : Fin 3) (c : Dev nD) (h : Fin 2), ∀ a,
    (![l.val, ownRow c h, 0] : Fin 3 → ℕ) a + S1x128x256.size a ≤ S3x2048x256.size a := by decide +kernel
theorem peerRow_inb3 : ∀ (l : Fin 3) (c : Dev nD) (r : Fin 7) (h : Fin 2), ∀ a,
    (![l.val, peerRow c r h, 0] : Fin 3 → ℕ) a + S1x128x256.size a ≤ S3x2048x256.size a := by decide +kernel
theorem plane_inb : ∀ (l : Fin 3), ∀ a,
    (![l.val, 0, 0] : Fin 3 → ℕ) a + S1x2048x256.size a ≤ S3x2048x256.size a := by decide +kernel
theorem slot_inb : ∀ (l : Fin 3) (r : Fin 7) (h : Fin 2), ∀ a,
    (![l.val, 1 + r.val, 128 * h.val, 0] : Fin 4 → ℕ) a + S1x1x128x256.size a ≤ S3x8x256x256.size a := by decide +kernel

/-- The rows of the device's own half in a `2048`-row buffer, in a three-plane buffer's plane `l`, the
    same of peer `r`'s half, the plane itself, and a slot of the landing buffer. -/
abbrev ownR2 (c : Dev nD) (h : Fin 2) : Rect S2048x256 :=
  Rect.unit (s := S2048x256) ![ownRow c h, 0] S128x256.size (ownRow_inb2 c h)
abbrev peerR2 (c : Dev nD) (r : Fin 7) (h : Fin 2) : Rect S2048x256 :=
  Rect.unit (s := S2048x256) ![peerRow c r h, 0] S128x256.size (peerRow_inb2 c r h)
abbrev ownR3 (l : Fin 3) (c : Dev nD) (h : Fin 2) : Rect S3x2048x256 :=
  Rect.unit (s := S3x2048x256) ![l.val, ownRow c h, 0] S1x128x256.size (ownRow_inb3 l c h)
abbrev peerR3 (l : Fin 3) (c : Dev nD) (r : Fin 7) (h : Fin 2) : Rect S3x2048x256 :=
  Rect.unit (s := S3x2048x256) ![l.val, peerRow c r h, 0] S1x128x256.size (peerRow_inb3 l c r h)
abbrev planeR (l : Fin 3) : Rect S3x2048x256 :=
  Rect.unit (s := S3x2048x256) ![l.val, 0, 0] S1x2048x256.size (plane_inb l)
abbrev slotR (l : Fin 3) (r : Fin 7) (h : Fin 2) : Rect S3x8x256x256 :=
  Rect.unit (s := S3x8x256x256) ![l.val, 1 + r.val, 128 * h.val, 0] S1x1x128x256.size (slot_inb l r h)

theorem ownR2_words : ∀ (c : Dev nD) (h : Fin 2), (ownR2 c h).WholeWords (EltTy.packing .bf16) := by decide +kernel
theorem ownR3_words : ∀ (l : Fin 3) (c : Dev nD) (h : Fin 2), (ownR3 l c h).WholeWords (EltTy.packing .bf16) := by decide +kernel
theorem peerR3_words : ∀ (l : Fin 3) (c : Dev nD) (r : Fin 7) (h : Fin 2), (peerR3 l c r h).WholeWords (EltTy.packing .bf16) := by
  decide +kernel
theorem slotR_words : ∀ (l : Fin 3) (r : Fin 7) (h : Fin 2), (slotR l r h).WholeWords (EltTy.packing .bf16) := by decide +kernel
theorem ownR3_packed : ∀ (l : Fin 3) (c : Dev nD) (h : Fin 2), (ownR3 l c h).PackedRows (EltTy.packing .bf16) := by decide +kernel
theorem peerR3_packed : ∀ (l : Fin 3) (c : Dev nD) (r : Fin 7) (h : Fin 2), (peerR3 l c r h).PackedRows (EltTy.packing .bf16) := by
  decide +kernel

/-- The buffer of stage `g` of the gathered rows: the first layer's input, then the layers' results. -/
def gat (g : Option (Fin 3)) : Memref sig .tc .vmem S2048x256 .bf16 :=
  match g with
  | none => xfull
  | some l => (xns.slice (planeR l) (fun _ => rfl)).squeeze S2048x256 squeezes_S1x2048x256_S2048x256

/-- The device's own half of it, as a copy names it. -/
def gatOwn (g : Option (Fin 3)) (c : Dev nD) (h : Fin 2) : Memref sig .tc .vmem S128x256 .bf16 :=
  match g with
  | none => xfull.slice (ownR2 c h) (fun _ => rfl)
  | some l => (xns.slice (ownR3 l c h) (fun _ => rfl)).squeeze S128x256 squeezes_S1x128x256_S128x256

/-- The piece of the send buffer with the product for peer `r`. -/
def prodPiece (l : Fin 3) (c : Dev nD) (r : Fin 7) (h : Fin 2) : Memref sig .tc .vmem S128x256 .bf16 :=
  (sbufs.slice (peerR3 l c r h) (fun _ => rfl)).squeeze S128x256 squeezes_S1x128x256_S128x256

/-- The landing slot for the product that peer `r` sends. -/
def slot (l : Fin 3) (r : Fin 7) (h : Fin 2) : Memref sig .tc .vmem S128x256 .bf16 :=
  (rbufs.slice (slotR l r h) (fun _ => rfl)).squeeze S128x256 squeezes_S1x1x128x256_S128x256

/-- The phase's stage: a gather of stage `g`, or the scatter of layer `l`. -/
inductive Kind
  | gather (g : Option (Fin 3))
  | scatter (l : Fin 3)
deriving DecidableEq

/-- The place of a kind among the seven phases. -/
def Kind.phase : Kind → Fin 7
  | .gather none => 0
  | .scatter 0 => 1
  | .gather (some 0) => 2
  | .scatter 1 => 3
  | .gather (some 1) => 4
  | .scatter 2 => 5
  | .gather (some 2) => 6

/-- What a transfer reads on its sender. -/
def srcV (k : Kind) (c : Dev nD) (r : Fin 7) (h : Fin 2) : Memref sig .tc .vmem S128x256 .bf16 :=
  match k with
  | .gather g => gatOwn g c h
  | .scatter l => prodPiece l c r h

/-- Where it lands on its receiver (the same place in the receiver's buffers). -/
def dstV (k : Kind) (c : Dev nD) (r : Fin 7) (h : Fin 2) : Memref sig .tc .vmem S128x256 .bf16 :=
  match k with
  | .gather g => gatOwn g c h
  | .scatter l => slot l r h

theorem gatOwn_words (g : Option (Fin 3)) (c : Dev nD) (h : Fin 2) : (gatOwn g c h).view.WordExact := by
  cases g with
  | none => exact (Memref.isWhole_whole _).wordExact_slice rfl _ (ownR2_words c h)
  | some l => exact ((Memref.isWhole_whole _).wordExact_slice rfl _ (ownR3_words l c h)).reshape _ _

theorem srcV_words (k : Kind) (c : Dev nD) (r : Fin 7) (h : Fin 2) : (srcV k c r h).view.WordExact := by
  cases k with
  | gather g => exact gatOwn_words g c h
  | scatter l => exact ((Memref.isWhole_whole _).wordExact_slice rfl _ (peerR3_words l c r h)).reshape _ _

theorem dstV_words (k : Kind) (c : Dev nD) (r : Fin 7) (h : Fin 2) : (dstV k c r h).view.WordExact := by
  cases k with
  | gather g => exact gatOwn_words g c h
  | scatter l => exact ((Memref.isWhole_whole _).wordExact_slice rfl _ (slotR_words l r h)).reshape _ _

/-! ## The operations -/

/-- The windows of one launch: the block of rows, the two weights of each layer, the result. -/
structure Wins where
  x : Memref sig .tc .vmem S256x256 .bf16
  hx : x.IsWhole
  win : Fin 3 → Memref sig .tc .vmem S256x512 .bf16
  hwin : ∀ l, (win l).IsWhole
  wout : Fin 3 → Memref sig .tc .vmem S512x256 .bf16
  hwout : ∀ l, (wout l).IsWhole
  out : Memref sig .tc .vmem S2048x256 .f32
  hout : out.IsWhole

/-- A program of the kernel. -/
abbrev P (F : FTy → Type) [FloatOps F] (α : Type) : Type _ := Prog (TpuEff nD τ sig (Elt F) Λ₀ .tc) α

/-- The barrier semaphore. -/
abbrev barS : Sem sig := (SemArray.scalar (sig.barrier 0 rfl) : Sems sig S_).sem

/-- The semaphore a transfer credits on its sender, and the one on its receiver. -/
abbrev sendS (k : Kind) (r : Fin 7) (h : Fin 2) : DmaSem sig := semOf cc0_scratch4 k.phase r h
abbrev recvS (k : Kind) (r : Fin 7) (h : Fin 2) : DmaSem sig := semOf cc0_scratch5 k.phase r h

/-- Start a transfer. -/
def send (k : Kind) (c : Dev nD) (r : Fin 7) (h : Fin 2) : P F PUnit :=
  Prog.lift (.enqueueDma (srcV k c r h) (.remote (Dev.tc (peer c r)) (dstV k c r h) (.dma (sendS k r h)))
    (.dma (recvS k r h)) (srcV_words k c r h) (dstV_words k c r h) ⟨⟨rfl, Or.inl rfl⟩, trivial⟩)

/-- Wait for what peer `r` sends. -/
def waitRecv (k : Kind) (c : Dev nD) (r : Fin 7) (h : Fin 2) : P F PUnit :=
  Prog.lift (.waitDma2 (recvS k r h) (srcV k c r h) (dstV k c r h) (srcV_words k c r h) (dstV_words k c r h))

/-- Wait until a transfer of one's own has been read out. -/
def waitSend (k : Kind) (c : Dev nD) (r : Fin 7) (h : Fin 2) : P F PUnit :=
  Prog.lift (.waitDma2 (sendS k r h) (dstV k c r h) (srcV k c r h) (dstV_words k c r h) (srcV_words k c r h))

/-- Signal peer `r`'s barrier semaphore. -/
def signal (c : Dev nD) (r : Fin 7) : P F PUnit := semSignalWord (peer c r) barS 1#32

theorem block_inb : ∀ (c : Dev nD), ∀ a, (![(Scalar.muli (me c) 256#32).toNat, 0] : Fin 2 → ℕ) a + S256x256.size a ≤ S2048x256.size a := by
  decide +kernel

/-- The device's own block of 256 rows. -/
abbrev blockR (c : Dev nD) : Rect S2048x256 :=
  Rect.unit (s := S2048x256) ![(Scalar.muli (me c) 256#32).toNat, 0] S256x256.size (block_inb c)

theorem blockR_packed : ∀ (c : Dev nD), (blockR c).PackedRows (EltTy.packing .bf16) := by decide +kernel

/-- Load peer `r`'s half of stage `g`. -/
def loadPeer (g : Option (Fin 3)) (c : Dev nD) (r : Fin 7) (h : Fin 2) : P F (Vec F S128x256 .bf16) :=
  Prog.lift (.load (gat g) (peerR2 c r h).toLoadRect (View.loadsAt_vmem h_S128x256))

/-- Load the device's own block of stage `g`. -/
def loadOwn (g : Option (Fin 3)) (c : Dev nD) : P F (Vec F S256x256 .bf16) :=
  Prog.lift (.load (gat g) (blockR c).toLoadRect (View.loadsAt_vmem h_S256x256))

/-- Store a product into its piece of the send buffer (the kernel loads the piece first, and drops it). -/
def storeProd (l : Fin 3) (c : Dev nD) (r : Fin 7) (h : Fin 2) (v : Vec F S1x128x256 .bf16) : P F PUnit :=
  (Prog.lift (.load ((sbufs.slice (planeR l) (fun _ => rfl)).squeeze S2048x256 squeezes_S1x2048x256_S2048x256)
    (peerR2 c r h).toLoadRect (View.loadsAt_vmem h_S128x256)) : P F (Vec F S128x256 .bf16)).bind fun _ =>
  Prog.lift (.store sbufs (peerR3 l c r h) v Finset.univ
    (View.stores_vmem h_S1x128x256 ((Memref.isWhole_whole _).storeExact_slice rfl _ (peerR3_packed l c r h)) (fun _ => rfl)) (.inl rfl))

/-- Load what peer `r` sent to this device's slot. -/
def loadSlot (l : Fin 3) (r : Fin 7) (h : Fin 2) : P F (Vec F S1x1x128x256 .bf16) :=
  Prog.lift (.load rbufs (slotR l r h).toLoadRect (View.loadsAt_vmem h_S1x1x128x256))

/-- Store the device's own half of layer `l`'s result. -/
def storeOwn (l : Fin 3) (c : Dev nD) (h : Fin 2) (v : Vec F S1x128x256 .bf16) : P F PUnit :=
  (Prog.lift (.load (gat (some l)) (ownR2 c h).toLoadRect (View.loadsAt_vmem h_S128x256)) : P F (Vec F S128x256 .bf16)).bind fun _ =>
  Prog.lift (.store xns (ownR3 l c h) v Finset.univ
    (View.stores_vmem h_S1x128x256 ((Memref.isWhole_whole _).storeExact_slice rfl _ (ownR3_packed l c h)) (fun _ => rfl)) (.inl rfl))

/-- Store 128 rows of the result. -/
def storeOut (W : Wins) (o : ℕ) (ho : ∀ a, (![o, 0] : Fin 2 → ℕ) a + S128x256.size a ≤ S2048x256.size a)
    (v : Vec F S128x256 .f32) : P F PUnit :=
  (Prog.lift (.load W.out (Rect.unit (s := S2048x256) ![o, 0] S128x256.size ho).toLoadRect (View.loadsAt_vmem h_S128x256)) :
    P F (Vec F S128x256 .f32)).bind fun _ =>
  Prog.lift (.store W.out (Rect.unit (s := S2048x256) ![o, 0] S128x256.size ho) v Finset.univ
    (View.stores_vmem_bits_univ h_S128x256 rfl) (.inl rfl))

/-! ## The values -/

/-- The product of the device's own block of rows with its two weights, not rounded. -/
def ownAcc (x : FVec F S256x256 .bf16) (w1 : FVec F S256x512 .bf16) (w2 : FVec F S512x256 .bf16) : FVec F S256x256 .f32 :=
  matmul dot_S256x512_S512x256_S256x256_1_0_0_1_n_n none
    (truncf .bf16 (maximumf (matmul dot_S256x256_S256x512_S256x512_1_0_0_1_n_n none x w1 (constant S256x512 .f32 0x00000000#32))
      (broadcast S256x512 (Scalar.ofBits .f32 0x00000000#32))) bitsLt_bf16_f32)
    w2 (constant S256x256 .f32 0x00000000#32)

/-- The product of a half of another device's rows with this device's two weights, rounded. -/
def partProd (w1 : FVec F S256x512 .bf16) (w2 : FVec F S512x256 .bf16) (v : Vec F S128x256 .bf16) : FVec F S128x256 .bf16 :=
  truncf .bf16 (matmul dot_S128x512_S512x256_S128x256_1_0_0_1_n_n none
    (truncf .bf16 (maximumf (matmul dot_S128x256_S256x512_S128x512_1_0_0_1_n_n none v w1 (constant S128x512 .f32 0x00000000#32))
      (broadcast S128x512 (Scalar.ofBits .f32 0x00000000#32))) bitsLt_bf16_f32)
    w2 (constant S128x256 .f32 0x00000000#32)) bitsLt_bf16_f32

/-- Rows as a store of one plane's rows takes them. -/
def lift3 (v : FVec F S128x256 .bf16) : Vec F S1x128x256 .bf16 :=
  shapeCast S1x128x256 (shapeCast S128x256 v shapeCasts_S128x256_S128x256) shapeCasts_S128x256_S1x128x256

/-- Half `h` of a 256-row block. -/
def halfOf (h : Fin 2) (v : FVec F S256x256 .f32) : FVec F S128x256 .f32 :=
  match h with
  | 0 => extractStridedSlice S128x256 ![0, 0] v slices_S256x256_o0_0_S128x256
  | 1 => extractStridedSlice S128x256 ![128, 0] v slices_S256x256_o128_0_S128x256

/-- One more addend, as it lies in its slot. -/
def accum (a : FVec F S128x256 .f32) (v : Vec F S1x1x128x256 .bf16) : FVec F S128x256 .f32 :=
  addf a (extf .f32 (shapeCast S128x256 v shapeCasts_S1x1x128x256_S128x256) bitsLt_bf16_f32)

/-! ## The program -/

/-- The order in which peers are served. -/
def arrival : List (Fin 7) := [0, 2, 3, 1, 4, 6, 5]
/-- The order in which the gathers are issued. -/
def issue : List (Fin 7) := [0, 1, 2, 3, 4, 5, 6]
def halves : List (Fin 2) := [0, 1]

/-- One program per element of a list. -/
def each {α : Type} : List α → (α → P F PUnit) → P F PUnit
  | [], _ => .ret ⟨⟩
  | a :: l, f => (f a).bind fun _ => each l f

/-- Peers in the order of arrival, halves innermost. -/
def arrHalves : List (Fin 7 × Fin 2) := arrival.flatMap fun r => halves.map fun h => (r, h)
/-- Halves outermost, peers in the order of issue. -/
def halfIssue : List (Fin 7 × Fin 2) := halves.flatMap fun h => issue.map fun r => (r, h)

/-- One piece of another device's rows: wait for it, multiply, send the product back. -/
def pieceStep (l : Fin 3) (g : Option (Fin 3)) (c : Dev nD) (w1 : FVec F S256x512 .bf16) (w2 : FVec F S512x256 .bf16)
    (t : Fin 7 × Fin 2) : P F PUnit :=
  (waitRecv (.gather g) c t.1 t.2).bind fun _ =>
  (loadPeer g c t.1 t.2).bind fun v =>
  (storeProd l c t.1 t.2 (lift3 (partProd w1 w2 v))).bind fun _ =>
  send (.scatter l) c t.1 t.2

/-- Add up what the peers sent for half `h`. -/
def reduce (l : Fin 3) (c : Dev nD) (h : Fin 2) : List (Fin 7) → FVec F S128x256 .f32 → P F (FVec F S128x256 .f32)
  | [], a => .ret a
  | r :: rs, a =>
    (waitRecv (.scatter l) c r h).bind fun _ =>
    (loadSlot l r h).bind fun v => reduce l c h rs (accum a v)

/-- One half of a layer's result: add up, store, start the gather. -/
def finishHalf (l : Fin 3) (c : Dev nD) (own : FVec F S256x256 .f32) (h : Fin 2) : P F (FVec F S128x256 .f32) :=
  (reduce l c h arrival (halfOf h own)).bind fun red =>
  (storeOwn l c h (lift3 (truncf .bf16 red bitsLt_bf16_f32))).bind fun _ =>
  (each issue fun r => send (.gather (some l)) c r h).bind fun _ => .ret red

/-- The stage a layer reads. -/
def prevStage : Fin 3 → Option (Fin 3)
  | 0 => none
  | 1 => some 0
  | 2 => some 1

/-- The device's own input of a layer. -/
def ownIn (W : Wins) (l : Fin 3) (c : Dev nD) : P F (FVec F S256x256 .bf16) :=
  match l with
  | 0 => (Prog.lift (.load W.x (Rect.unit (s := S256x256) ![0, 0] S256x256.size inb_S256x256_S256x256_0_0).toLoadRect
      (View.loadsAt_vmem h_S256x256)) : P F (Vec F S256x256 .bf16)).bind fun v =>
      .ret (shapeCast S256x256 v shapeCasts_S256x256_S256x256)
  | 1 => loadOwn (some 0) c
  | 2 => loadOwn (some 1) c

def loadWin (W : Wins) (l : Fin 3) : P F (Vec F S256x512 .bf16) :=
  Prog.lift (.load (W.win l) (Rect.unit (s := S256x512) ![0, 0] S256x512.size inb_S256x512_S256x512_0_0).toLoadRect
    (View.loadsAt_vmem h_S256x512))
def loadWout (W : Wins) (l : Fin 3) : P F (Vec F S512x256 .bf16) :=
  Prog.lift (.load (W.wout l) (Rect.unit (s := S512x256) ![0, 0] S512x256.size inb_S512x256_S512x256_0_0).toLoadRect
    (View.loadsAt_vmem h_S512x256))

/-- One layer; its two results are the halves of this device's block, not rounded. -/
def layer (W : Wins) (c : Dev nD) (l : Fin 3) : P F (FVec F S128x256 .f32 × FVec F S128x256 .f32) :=
  (ownIn W l c).bind fun x =>
  (loadWin W l).bind fun w1 =>
  (loadWout W l).bind fun w2 =>
  (each arrHalves (pieceStep l (prevStage l) c (shapeCast S256x512 w1 shapeCasts_S256x512_S256x512)
    (shapeCast S512x256 w2 shapeCasts_S512x256_S512x256))).bind fun _ =>
  (finishHalf l c (ownAcc x (shapeCast S256x512 w1 shapeCasts_S256x512_S256x512)
    (shapeCast S512x256 w2 shapeCasts_S512x256_S512x256)) 0).bind fun a =>
  (finishHalf l c (ownAcc x (shapeCast S256x512 w1 shapeCasts_S256x512_S256x512)
    (shapeCast S512x256 w2 shapeCasts_S512x256_S512x256)) 1).bind fun b => .ret (a, b)

/-- One piece of another device's result. -/
def outStep (W : Wins) (c : Dev nD) (t : Fin 7 × Fin 2) : P F PUnit :=
  (waitRecv (.gather (some 2)) c t.1 t.2).bind fun _ =>
  (loadPeer (some 2) c t.1 t.2).bind fun v =>
  storeOut W (peerRow c t.1 t.2) (peerRow_inb2 c t.1 t.2) (extf .f32 v bitsLt_bf16_f32)

/-- The waits for the transfers of one phase to be read out. -/
def drains (k : Kind) (c : Dev nD) (ts : List (Fin 7 × Fin 2)) : P F PUnit :=
  each ts fun t => waitSend k c t.1 t.2

/-- Copy the device's own rows into the gathered buffer, and start the first gather. -/
def entry (W : Wins) (c : Dev nD) : P F PUnit :=
  (each issue (signal c)).bind fun _ =>
  (semWaitWord barS 7#32).bind fun _ =>
  (Prog.lift (.load W.x (Rect.unit (s := S256x256) ![0, 0] S256x256.size inb_S256x256_S256x256_0_0).toLoadRect
      (View.loadsAt_vmem h_S256x256)) : P F (Vec F S256x256 .bf16)).bind fun v =>
  (loadOwn none c).bind fun _ =>
  (Prog.lift (.store xfull (blockR c) (shapeCast S256x256 (shapeCast S256x256 v shapeCasts_S256x256_S256x256) shapeCasts_S256x256_S256x256)
    Finset.univ (View.stores_vmem h_S256x256 ((Memref.isWhole_whole _).storeExact_slice rfl _ (blockR_packed c)) (fun _ => rfl)) (.inl rfl))).bind fun _ =>
  each halfIssue fun t => send (.gather none) c t.1 t.2

/-- The whole kernel. -/
def body (W : Wins) : P F PUnit :=
  (Prog.lift .deviceId : P F (Dev nD)).bind fun c =>
  (entry W c).bind fun _ =>
  (layer W c 0).bind fun _ =>
  (layer W c 1).bind fun _ =>
  (layer W c 2).bind fun ab =>
  (storeOut W (ownRow c 0) (ownRow_inb2 c 0) ab.1).bind fun _ =>
  (storeOut W (ownRow c 1) (ownRow_inb2 c 1) ab.2).bind fun _ =>
  (each arrHalves (outStep W c)).bind fun _ =>
  (drains (.gather none) c halfIssue).bind fun _ =>
  (drains (.scatter 0) c arrHalves).bind fun _ =>
  (drains (.gather (some 0)) c halfIssue).bind fun _ =>
  (drains (.scatter 1) c arrHalves).bind fun _ =>
  (drains (.gather (some 1)) c halfIssue).bind fun _ =>
  (drains (.scatter 2) c arrHalves).bind fun _ =>
  drains (.gather (some 2)) c halfIssue

end Cert.KernelIdeal.Mlp

end
-- ==== Proof.Values.lean ====
module

public import proofs.«01_k».proof.Proof.Program
public import Idealize.ShloMosaic.Lib.ValueIdxCore

/-! # What the buffers hold

The rows of a device after each stage, as values of the inputs: `blk g c` is device `c`'s block of 256
rows of stage `g`, `red l c h` the same rows of layer `l`'s result before rounding, and `val k c r h`
the contents of one transfer. -/

@[expose] public section

noncomputable section

namespace Cert.KernelIdeal.Mlp

open Idealize.ShloMosaic Idealize.SL.Sem Cert.KernelIdeal Cert.KernelIdeal.Gen
open Idealize.ShloMosaic.ValueIdx

variable {F : FTy → Type} [FloatOps F]

/-- The inputs: each device's block of rows, and its share of the two weights of each layer. -/
structure Inputs (F : FTy → Type) where
  x : Dev nD → FVec F S256x256 .bf16
  w1 : Fin 3 → Dev nD → FVec F S256x512 .bf16
  w2 : Fin 3 → Dev nD → FVec F S512x256 .bf16

section Rows
variable {α : Type}

/-- Half `h` of a block of 256 rows. -/
def rowsOf (h : Fin 2) (B : S256x256.Idx → α) : S128x256.Idx → α :=
  fun i => B (ix2 (n0 := 256) (n1 := 256) ⟨128 * h.val + (i 0).val, by
    have h0 : (i 0).val < 128 := (i 0).isLt
    have := h.isLt; omega⟩ (i 1))

/-- A block of 256 rows from its halves. -/
def joinRows (a : Fin 2 → S128x256.Idx → α) : S256x256.Idx → α :=
  fun i => a ⟨(i 0).val / 128, by have h0 : (i 0).val < 256 := (i 0).isLt; omega⟩
    (ix2 (n0 := 128) (n1 := 256) ⟨(i 0).val % 128, Nat.mod_lt _ (by decide)⟩ (i 1))

theorem rowsOf_joinRows (h : Fin 2) (a : Fin 2 → S128x256.Idx → α) : rowsOf h (joinRows a) = a h := by
  funext i
  have h0 : (i 0).val < 128 := (i 0).isLt
  have hh := h.isLt
  have e1 : (128 * h.val + (i 0).val) / 128 = h.val := by omega
  have e2 : (128 * h.val + (i 0).val) % 128 = (i 0).val := by omega
  show a ⟨(128 * h.val + (i 0).val) / 128, _⟩ (ix2 (n0 := 128) (n1 := 256) ⟨(128 * h.val + (i 0).val) % 128, _⟩ (i 1)) = a h i
  have e3 : (⟨(128 * h.val + (i 0).val) / 128, by omega⟩ : Fin 2) = h := Fin.ext e1
  have e4 : ix2 (n0 := 128) (n1 := 256) ⟨(128 * h.val + (i 0).val) % 128, Nat.mod_lt _ (by decide)⟩ (i 1) = i := by
    conv_rhs => rw [eq_ix2 i]
    congr 1
    exact Fin.ext e2
  rw [e3, e4]

/-- A block is known by its halves. -/
theorem rows_ext {B B' : S256x256.Idx → α} (h : ∀ k, rowsOf k B = rowsOf k B') : B = B' := by
  funext i
  have h0 : (i 0).val < 256 := (i 0).isLt
  have hk := congrFun (h ⟨(i 0).val / 128, by omega⟩) (ix2 (n0 := 128) (n1 := 256) ⟨(i 0).val % 128, Nat.mod_lt _ (by decide)⟩ (i 1))
  have e : ix2 (n0 := 256) (n1 := 256) ⟨128 * ((i 0).val / 128) + (i 0).val % 128, by omega⟩ (i 1) = i := by
    conv_rhs => rw [eq_ix2 i]
    congr 1
    exact Fin.ext (by show 128 * ((i 0).val / 128) + (i 0).val % 128 = (i 0).val; omega)
  have hk' : B (ix2 (n0 := 256) (n1 := 256) ⟨128 * ((i 0).val / 128) + (i 0).val % 128, by omega⟩ (i 1))
    = B' (ix2 (n0 := 256) (n1 := 256) ⟨128 * ((i 0).val / 128) + (i 0).val % 128, by omega⟩ (i 1)) := hk
  rwa [e] at hk'

end Rows

variable (A : Inputs F)

/-- One addend of a layer's result: the product peer `r` sends. -/
def addend (l : Fin 3) (B : Dev nD → FVec F S256x256 .bf16) (c : Dev nD) (h : Fin 2) (r : Fin 7) : FVec F S128x256 .bf16 :=
  partProd (A.w1 l (peer c r)) (A.w2 l (peer c r)) (rowsOf h (B c))

/-- Half `h` of device `c`'s rows of layer `l`'s result on the stage `B`, before rounding: its own product, and the
    peers' in the order of arrival. -/
def redOf (l : Fin 3) (B : Dev nD → FVec F S256x256 .bf16) (c : Dev nD) (h : Fin 2) : FVec F S128x256 .f32 :=
  arrival.foldl (fun a r => addf a (extf .f32 (addend A l B c h r) bitsLt_bf16_f32)) (halfOf h (ownAcc (B c) (A.w1 l c) (A.w2 l c)))

/-- The next stage. -/
def nextOf (l : Fin 3) (B : Dev nD → FVec F S256x256 .bf16) : Dev nD → FVec F S256x256 .bf16 :=
  fun c => joinRows fun h => truncf .bf16 (redOf A l B c h) bitsLt_bf16_f32

/-- Every device's block of stage `g`. -/
def blk : Option (Fin 3) → Dev nD → FVec F S256x256 .bf16
  | none => A.x
  | some 0 => nextOf A 0 A.x
  | some 1 => nextOf A 1 (nextOf A 0 A.x)
  | some 2 => nextOf A 2 (nextOf A 1 (nextOf A 0 A.x))

theorem blk_some (l : Fin 3) : blk A (some l) = nextOf A l (blk A (prevStage l)) := by
  match l with | 0 => rfl | 1 => rfl | 2 => rfl

/-- The result of layer `l`, before rounding. -/
def red (l : Fin 3) (c : Dev nD) (h : Fin 2) : FVec F S128x256 .f32 := redOf A l (blk A (prevStage l)) c h

theorem rowsOf_blk_some (l : Fin 3) (c : Dev nD) (h : Fin 2) :
    rowsOf h (blk A (some l) c) = truncf .bf16 (red A l c h) bitsLt_bf16_f32 := by
  rw [blk_some]; exact rowsOf_joinRows h _

/-- What transfer `(k, r, h)` of device `c` carries. -/
def val (k : Kind) (c : Dev nD) (r : Fin 7) (h : Fin 2) : FVec F S128x256 .bf16 :=
  match k with
  | .gather g => rowsOf h (blk A g c)
  | .scatter l => partProd (A.w1 l c) (A.w2 l c) (rowsOf h (blk A (prevStage l) (peer c r)))

/-- The 128 rows of the result that come from half `h` of device `p`'s block, on device `c`: its own are not rounded. -/
def outRows (c p : Dev nD) (h : Fin 2) : FVec F S128x256 .f32 :=
  if p = c then red A 2 c h else extf .f32 (rowsOf h (blk A (some 2) p)) bitsLt_bf16_f32

/-- The whole result on device `c`. -/
def outFinal (c : Dev nD) : FVec F S2048x256 .f32 :=
  fun i => outRows A c ⟨(i 0).val / 256, by
      have h0 : (i 0).val < 2048 := (i 0).isLt
      show (i 0).val / 256 < 8; omega⟩ ⟨(i 0).val / 128 % 2, Nat.mod_lt _ (by decide)⟩
    (ix2 (n0 := 128) (n1 := 256) ⟨(i 0).val % 128, Nat.mod_lt _ (by decide)⟩ (i 1))

/-! ## Devices and rows by number -/

theorem peer_peer : ∀ (c : Dev nD) (r : Fin 7), peer (peer c r) r = c := by decide +kernel
theorem peer_ne : ∀ (c : Dev nD) (r : Fin 7), peer c r ≠ c := by decide +kernel
theorem peer_inj : ∀ (c : Dev nD) (r r' : Fin 7), peer c r = peer c r' → r = r' := by decide +kernel
theorem peer_surj : ∀ (c p : Dev nD), p ≠ c → ∃ r, peer c r = p := by decide +kernel
theorem ownRow_eq : ∀ (c : Dev nD) (h : Fin 2), ownRow c h = 256 * c.val + 128 * h.val := by decide +kernel
theorem peerRow_eq : ∀ (c : Dev nD) (r : Fin 7) (h : Fin 2), peerRow c r h = ownRow (peer c r) h := by decide +kernel
theorem blockRow_eq : ∀ (c : Dev nD), (Scalar.muli (me c) 256#32).toNat = 256 * c.val := by decide +kernel

end Cert.KernelIdeal.Mlp

end
-- ==== Proof.Views.lean ====
module

public import proofs.«01_k».proof.Proof.Values
public import Idealize.ShloMosaic.Lib.ValueLayout
public import Idealize.ShloMosaic.Lib.ViewIndex

/-! # One piece, two names

The same elements of a buffer are reached in two ways: as a copy names them (a slice of the three-plane buffer with the
unit axis dropped) and as a load or a store names them (rows of one plane, or a slice with the unit axis kept). -/

@[expose] public section

noncomputable section

namespace Cert.KernelIdeal.Mlp

open Idealize.ShloMosaic Idealize.SL.Sem Cert.KernelIdeal Cert.KernelIdeal.Gen
open Idealize.ShloMosaic.ValueIdx

/-- 128 rows of a plane, as a copy names them. -/
abbrev rows3 (M : Memref sig .tc .vmem S3x2048x256 .bf16) (l : Fin 3) (o : ℕ)
    (ho : ∀ a, (![l.val, o, 0] : Fin 3 → ℕ) a + S1x128x256.size a ≤ S3x2048x256.size a) : Memref sig .tc .vmem S128x256 .bf16 :=
  (M.slice (Rect.unit (s := S3x2048x256) ![l.val, o, 0] S1x128x256.size ho) (fun _ => rfl)).squeeze S128x256 squeezes_S1x128x256_S128x256

/-- A plane. -/
abbrev plane3 (M : Memref sig .tc .vmem S3x2048x256 .bf16) (l : Fin 3) : Memref sig .tc .vmem S2048x256 .bf16 :=
  (M.slice (planeR l) (fun _ => rfl)).squeeze S2048x256 squeezes_S1x2048x256_S2048x256

theorem emb_rows3 (M : Memref sig .tc .vmem S3x2048x256 .bf16) (l : Fin 3) (o : ℕ)
    (ho : ∀ a, (![l.val, o, 0] : Fin 3 → ℕ) a + S1x128x256.size a ≤ S3x2048x256.size a)
    (a : Fin 128) (b : Fin 256) (hl : o + a.val < 2048) :
    (rows3 M l o ho).view.emb (ix2 a b) = M.view.emb (ix3 (n0 := 3) (n1 := 2048) (n2 := 256) l ⟨o + a.val, hl⟩ b) := by
  show M.view.emb ((Rect.unit (s := S3x2048x256) ![l.val, o, 0] S1x128x256.size ho).emb
    (Shape.reshapeEquiv squeezes_S1x128x256_S128x256.numel_eq (ix2 a b))) = _
  erw [reshapeEquiv_ix2_1ab]
  congr 1
  refine Shape.idx3_ext ?_ ?_ ?_
  · show l.val + 1 * 0 = l.val; omega
  · show o + 1 * a.val = o + a.val; omega
  · show 0 + 1 * b.val = b.val; omega

theorem emb_plane_rows (M : Memref sig .tc .vmem S3x2048x256 .bf16) (l : Fin 3) (o : ℕ) (n : ℕ)
    (ho : ∀ a, (![o, 0] : Fin 2 → ℕ) a + (![n, 256] : Fin 2 → ℕ) a ≤ S2048x256.size a)
    (a : Fin n) (b : Fin 256) (hl : o + a.val < 2048) :
    ((plane3 M l).access (Rect.unit (s := S2048x256) ![o, 0] ![n, 256] ho)).emb (ix2 a b)
      = M.view.emb (ix3 (n0 := 3) (n1 := 2048) (n2 := 256) l ⟨o + a.val, hl⟩ b) := by
  have e : (Rect.unit (s := S2048x256) ![o, 0] ![n, 256] ho).emb (ix2 a b)
      = ix2 (n0 := 2048) (n1 := 256) ⟨o + a.val, hl⟩ b := by
    rw [eq_ix2 ((Rect.unit (s := S2048x256) ![o, 0] ![n, 256] ho).emb (ix2 a b))]
    congr 1
    · exact Fin.ext (by show o + 1 * a.val = o + a.val; omega)
    · exact Fin.ext (by show 0 + 1 * b.val = b.val; omega)
  show M.view.emb ((planeR l).emb (Shape.reshapeEquiv squeezes_S1x2048x256_S2048x256.numel_eq
    ((Rect.unit (s := S2048x256) ![o, 0] ![n, 256] ho).emb (ix2 a b)))) = _
  rw [e]
  erw [reshapeEquiv_ix2_1ab]
  congr 1
  refine Shape.idx3_ext ?_ ?_ ?_
  · show l.val + 1 * 0 = l.val; omega
  · show 0 + 1 * (o + a.val) = o + a.val; omega
  · show 0 + 1 * b.val = b.val; omega

/-- A plane's rows are the same elements under both names. -/
theorem emb_plane_eq (M : Memref sig .tc .vmem S3x2048x256 .bf16) (l : Fin 3) (o : ℕ)
    (ho2 : ∀ a, (![o, 0] : Fin 2 → ℕ) a + S128x256.size a ≤ S2048x256.size a)
    (ho3 : ∀ a, (![l.val, o, 0] : Fin 3 → ℕ) a + S1x128x256.size a ≤ S3x2048x256.size a) :
    ((plane3 M l).access (Rect.unit (s := S2048x256) ![o, 0] S128x256.size ho2)).emb = (rows3 M l o ho3).view.emb := by
  refine Function.Embedding.ext fun y => ?_
  have hy : (y 0).val < 128 := (y 0).isLt
  have h0 : o + 128 ≤ 2048 := ho2 0
  rw [eq_ix2 y]
  exact (emb_plane_rows M l o 128 ho2 (y 0) (y 1) (by omega)).trans (emb_rows3 M l o ho3 (y 0) (y 1) (by omega)).symm

end Cert.KernelIdeal.Mlp

end
-- ==== Proof.Own.lean ====
module

public import proofs.«01_k».proof.Proof.Views
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.MemrefSat
public import Idealize.ShloMosaic.Lib.Ring
public import Idealize.ShloMosaic.Lib.Transfers
public import Idealize.ShloMosaic.Lib.Tactic

/-! # Loads and stores of the pieces

One rule per memory operation of the kernel, stated on the pieces the protocol passes around: a piece is owned
at its contents, as a copy names it (`gatOwn`, `prodPiece`, `slot`). -/

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The resource algebra: the pipeline library's copy, and the protocol's (duties named by peer numbers) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- What is to be shown of a program of device `c`. -/
abbrev WP (c : Dev nD) {α : Type} (p : P F α) (Q : α → sProp 𝕄) : sProp 𝕄 :=
  wp frame (wpE (defs₀ (F := F)) 𝒱₀ (c : Thread nD τ) none) Set.univ p Q

/-- A piece of device `c`'s memory at contents `X`. -/
abbrev own (c : Dev nD) {s : Shape} {e : EltTy} (m : Memref sig .tc .vmem s e) (q : PosShare TreeShare) (X : s.Idx → Elt F e) : sProp 𝕄 :=
  owns (c : Thread nD τ) m q X

/-- Run a program, then another. -/
theorem wp_then (c : Dev nD) {α β : Type} (p : P F α) (k : α → P F β) (Q : β → sProp 𝕄) :
    WP c (p.bind k) Q = WP c p (fun a => WP c (k a) Q) :=
  wp_bind _ _ _ p k Q

theorem wp_done (c : Dev nD) {α : Type} (v : α) (Q : α → sProp 𝕄) : Q v ⊢ WP c (.ret v) Q := by
  show Q v ⊢ wp frame (wpE (defs₀ (F := F)) 𝒱₀ (c : Thread nD τ) none) Set.univ (.ret v) Q
  rw [wp_ret]; iintro H; imodintro; iexact H

theorem own_some (c : Dev nD) {s : Shape} {e : EltTy} (m : Memref sig .tc .vmem s e) (q : PosShare TreeShare)
    (f : Buf (Elt F) (m.view.loc (c : Thread nD τ))) :
    (m.view.loc (c : Thread nD τ) ↦[m.view.set]{q} f : sProp 𝕄) ⊢ iprop(∃ X, own c m q X) := by
  iintro H
  iexists (m.view.read (Elt F) f)
  iapply (owns_intro (c : Thread nD τ) m q f) $$ H

/-! ## Loads -/

/-- A load through a rectangle, of a piece owned at other names: the piece's elements are the rectangle's. -/
theorem wp_load_at (c : Dev nD) {s : Shape} {e : EltTy} {m : Memref sig .tc .vmem s e} {r : Rect s} {hl : m.view.LoadsAt r.toLoadRect}
    {α : Type} (k : (r.shape.Idx → Elt F e) → P F α) (Q : α → sProp 𝕄) (q : PosShare TreeShare)
    (X : r.shape.Idx → Elt F e) :
    (iprop(∃ f, ⌜(m.access r).read (Elt F) f = X⌝ ∗ ((m.access r).loc (c : Thread nD τ) ↦[(m.access r).set]{q} f)) : sProp 𝕄)
      ⊢ iprop((iprop(∃ f, ⌜(m.access r).read (Elt F) f = X⌝ ∗ ((m.access r).loc (c : Thread nD τ) ↦[(m.access r).set]{q} f)) -∗ WP c (k X) Q)
        -∗ WP c (.op (.load m r.toLoadRect hl) k) Q) := by
  iintro ⟨%f, %hf, H⟩ Hk
  iapply (wp_load_rect 𝒱₀ (c : Thread nD τ) none Set.univ (m := m) (r := r) (Finset.Subset.refl _)) $$ H
  iintro H
  rw [hf]
  iapply Hk
  iexists f
  isplitr; · ipureintro; exact hf
  iexact H

theorem own_gat (c : Dev nD) (g : Option (Fin 3)) (p : Dev nD) (h : Fin 2) (o : ℕ)
    (ho : ∀ a, (![o, 0] : Fin 2 → ℕ) a + S128x256.size a ≤ S2048x256.size a) (e : o = ownRow p h) (q : PosShare TreeShare)
    (X : FVec F S128x256 .bf16) :
    (own c (gatOwn g p h) q X : sProp 𝕄)
      = iprop(∃ f, ⌜((gat g).access (Rect.unit (s := S2048x256) ![o, 0] S128x256.size ho)).read (Elt F) f = X⌝
          ∗ (((gat g).access (Rect.unit (s := S2048x256) ![o, 0] S128x256.size ho)).loc (c : Thread nD τ)
              ↦[((gat g).access (Rect.unit (s := S2048x256) ![o, 0] S128x256.size ho)).set]{q} f)) := by
  subst e
  cases g with
  | none => rfl
  | some l =>
    have he := emb_plane_eq xns l (ownRow p h) ho (ownRow_inb3 l p h)
    have hs : ((plane3 xns l).access (Rect.unit (s := S2048x256) ![ownRow p h, 0] S128x256.size ho)).set = (gatOwn (some l) p h).view.set := by
      show Finset.univ.map _ = Finset.univ.map _
      exact congrArg (fun f => Finset.univ.map f) he
    have hr : ∀ f : (xns.view.ty).Contents (Elt F),
        ((plane3 xns l).access (Rect.unit (s := S2048x256) ![ownRow p h, 0] S128x256.size ho)).read (Elt F) f
          = (gatOwn (some l) p h).view.read (Elt F) f := fun f => by
      funext x
      exact congrArg (fun i => cast _ (f i)) (DFunLike.congr_fun he x)
    show iprop(∃ f, ⌜(gatOwn (some l) p h).view.read (Elt F) f = X⌝ ∗ ((gatOwn (some l) p h).view.loc (c : Thread nD τ) ↦[(gatOwn (some l) p h).view.set]{q} f)) = _
    rw [← hs]
    refine congrArg BIBase.exists (funext fun f => ?_)
    rw [← hr f]
    rfl

/-- Load a peer's half of a stage. -/
theorem wp_loadPeer (c : Dev nD) (g : Option (Fin 3)) (r : Fin 7) (h : Fin 2) (q : PosShare TreeShare) (X : FVec F S128x256 .bf16)
    (Q : Vec F S128x256 .bf16 → sProp 𝕄) :
    own c (gatOwn g (peer c r) h) q X ⊢ iprop((own c (gatOwn g (peer c r) h) q X -∗ Q X) -∗ WP c (loadPeer g c r h) Q) := by
  rw [own_gat c g (peer c r) h _ (peerRow_inb2 c r h) (peerRow_eq c r h)]
  iintro H Hk
  iapply (wp_load_at c (m := gat g) (r := peerR2 c r h) (Prog.ret) Q q X) $$ H
  iintro H
  iapply (wp_done (F := F) c)
  iapply Hk $$ H

/-- Load a whole window. -/
theorem wp_loadWhole (c : Dev nD) {s : Shape} {e : EltTy} (m : Memref sig .tc .vmem s e) (off : Fin s.rank → ℕ) (hz : off = fun _ => 0)
    (inb : ∀ a, off a + s.size a ≤ s.size a) {hl : m.view.LoadsAt (Rect.unit (s := s) off s.size inb).toLoadRect}
    (q : PosShare TreeShare) (X : s.Idx → Elt F e) (Q : (s.Idx → Elt F e) → sProp 𝕄) :
    own c m q X ⊢ iprop((own c m q X -∗ Q X) -∗ WP c (Prog.lift (.load m (Rect.unit (s := s) off s.size inb).toLoadRect hl)) Q) := by
  subst hz
  unfold own owns
  iintro ⟨%f, %hf, H⟩ Hk
  iapply (wp_load 𝒱₀ (c : Thread nD τ) none Set.univ (m := m) (r := (Rect.unit (s := s) (fun _ => 0) s.size inb).toLoadRect)
    (View.setOn_subset_set _ _)) $$ H
  iintro H
  have hv : m.view.readAt (Elt F) (Rect.unit (s := s) (fun _ => 0) s.size inb).toLoadRect f = X := by
    rw [← hf]
    funext x
    refine congrArg (m.view.read (Elt F) f) (funext fun a => Fin.ext ?_)
    show 0 + 1 * (x a).val = (x a).val
    omega
  rw [hv]; iapply (wp_done (F := F) c)
  iapply Hk
  iexists f
  isplitr; · ipureintro; exact hf
  iexact H

/-! ## Stores of one plane's rows -/

theorem shapeCast_lift3 (v : FVec F S128x256 .bf16) (hn) : (fun x => lift3 v (Shape.reshapeEquiv hn x)) = v := by
  show shapeCast S128x256 (shapeCast S1x128x256 (shapeCast S128x256 v shapeCasts_S128x256_S128x256) shapeCasts_S128x256_S1x128x256) hn = v
  rw [shapeCast_shapeCast]
  exact shapeCast_self _ _

/-- Store rows of a plane through the three-plane buffer. -/
theorem wp_storeRows (c : Dev nD) (M : Memref sig .tc .vmem S3x2048x256 .bf16) (l : Fin 3) (o : ℕ)
    (ho : ∀ a, (![l.val, o, 0] : Fin 3 → ℕ) a + S1x128x256.size a ≤ S3x2048x256.size a) {hx hm}
    (v : FVec F S128x256 .bf16) (Q : PUnit → sProp 𝕄) :
    iprop(∃ X, own c (rows3 M l o ho) fullShare X)
      ⊢ iprop((own c (rows3 M l o ho) fullShare v -∗ Q ⟨⟩)
        -∗ WP c (Prog.lift (.store M (Rect.unit (s := S3x2048x256) ![l.val, o, 0] S1x128x256.size ho) (lift3 v) Finset.univ hx hm)) Q) := by
  have hset : (rows3 M l o ho).view.set = (M.access (Rect.unit (s := S3x2048x256) ![l.val, o, 0] S1x128x256.size ho)).set :=
    View.set_reshape (v := M.access (Rect.unit (s := S3x2048x256) ![l.val, o, 0] S1x128x256.size ho)) _
  unfold own owns
  iintro ⟨%X, %f, %hf, H⟩ Hk
  iapply (wp_store 𝒱₀ (c : Thread nD τ) none Set.univ (m := M) (r := Rect.unit (s := S3x2048x256) ![l.val, o, 0] S1x128x256.size ho)
    (Mk := Finset.univ) (S := (rows3 M l o ho).view.set) (by rw [View.setOn_univ, hset])) $$ H
  iintro H
  iapply (wp_done (F := F) c)
  iapply Hk
  iexists _
  isplitr
  rotate_left
  · iexact H
  · ipureintro
    refine Eq.trans ?_ (shapeCast_lift3 v squeezes_S1x128x256_S128x256.numel_eq)
    funext x
    exact congrFun (View.read_write_univ (v := M.access (Rect.unit (s := S3x2048x256) ![l.val, o, 0] S1x128x256.size ho)) f (lift3 v)) _

/-- Rows of the send buffer as the load in front of the store names them. -/
theorem own_prod (c : Dev nD) (l : Fin 3) (p : Dev nD) (r : Fin 7) (h : Fin 2) (q : PosShare TreeShare) (X : FVec F S128x256 .bf16) :
    (own c (prodPiece l p r h) q X : sProp 𝕄)
      = iprop(∃ f, ⌜((plane3 sbufs l).access (peerR2 p r h)).read (Elt F) f = X⌝
          ∗ (((plane3 sbufs l).access (peerR2 p r h)).loc (c : Thread nD τ) ↦[((plane3 sbufs l).access (peerR2 p r h)).set]{q} f)) := by
  have he := emb_plane_eq sbufs l (peerRow p r h) (peerRow_inb2 p r h) (peerRow_inb3 l p r h)
  have hs : ((plane3 sbufs l).access (peerR2 p r h)).set = (prodPiece l p r h).view.set := by
    show Finset.univ.map _ = Finset.univ.map _
    exact congrArg (fun f => Finset.univ.map f) he
  have hr : ∀ f : (sbufs.view.ty).Contents (Elt F),
      ((plane3 sbufs l).access (peerR2 p r h)).read (Elt F) f = (prodPiece l p r h).view.read (Elt F) f := fun f => by
    funext x
    exact congrArg (fun i => cast _ (f i)) (DFunLike.congr_fun he x)
  show iprop(∃ f, ⌜(prodPiece l p r h).view.read (Elt F) f = X⌝ ∗ ((prodPiece l p r h).view.loc (c : Thread nD τ) ↦[(prodPiece l p r h).view.set]{q} f)) = _
  rw [← hs]
  refine congrArg BIBase.exists (funext fun f => ?_)
  rw [← hr f]
  rfl

/-- Store a product into its piece. -/
theorem wp_storeProd (c : Dev nD) (l : Fin 3) (r : Fin 7) (h : Fin 2) (v : FVec F S128x256 .bf16) (Q : PUnit → sProp 𝕄) :
    iprop(∃ X, own c (prodPiece l c r h) fullShare X)
      ⊢ iprop((own c (prodPiece l c r h) fullShare v -∗ Q ⟨⟩) -∗ WP c (storeProd l c r h (lift3 v)) Q) := by
  iintro ⟨%X, H⟩ Hk
  unfold storeProd
  rw [wp_then]
  ihave H := (Entails.of_eq (own_prod c l c r h fullShare X)) $$ H
  iapply (wp_load_at c (m := plane3 sbufs l) (r := peerR2 c r h) (Prog.ret) _ fullShare X) $$ H
  iintro H
  iapply (wp_done (F := F) c)
  ihave H := (Entails.of_eq (own_prod c l c r h fullShare X).symm) $$ H
  iapply (wp_storeRows c sbufs l (peerRow c r h) (peerRow_inb3 l c r h) v Q) $$ [H]
  · iexists X; iexact H
  iexact Hk

/-- Store the device's own half of a layer's result. -/
theorem wp_storeOwn (c : Dev nD) (l : Fin 3) (h : Fin 2) (v : FVec F S128x256 .bf16) (Q : PUnit → sProp 𝕄) :
    iprop(∃ X, own c (gatOwn (some l) c h) fullShare X)
      ⊢ iprop((own c (gatOwn (some l) c h) fullShare v -∗ Q ⟨⟩) -∗ WP c (storeOwn l c h (lift3 v)) Q) := by
  iintro ⟨%X, H⟩ Hk
  unfold storeOwn
  rw [wp_then]
  ihave H := (Entails.of_eq (own_gat c (some l) c h _ (ownRow_inb2 c h) rfl fullShare X)) $$ H
  iapply (wp_load_at c (m := gat (some l)) (r := ownR2 c h) (Prog.ret) _ fullShare X) $$ H
  iintro H
  iapply (wp_done (F := F) c)
  ihave H := (Entails.of_eq (own_gat c (some l) c h _ (ownRow_inb2 c h) rfl fullShare X).symm) $$ H
  iapply (wp_storeRows c xns l (ownRow c h) (ownRow_inb3 l c h) v Q) $$ [H]
  · iexists X; iexact H
  iexact Hk

/-- Load what lies in a landing slot. -/
theorem wp_loadSlot (c : Dev nD) (l : Fin 3) (r : Fin 7) (h : Fin 2) (X : FVec F S128x256 .bf16) (Q : Vec F S1x1x128x256 .bf16 → sProp 𝕄) :
    own c (slot l r h) fullShare X
      ⊢ iprop((∀ v, ⌜shapeCast S128x256 v shapeCasts_S1x1x128x256_S128x256 = X⌝ -∗ own c (slot l r h) fullShare X -∗ Q v)
        -∗ WP c (loadSlot l r h) Q) := by
  have hset : (slot l r h).view.set = (rbufs.access (slotR l r h)).set :=
    View.set_reshape (v := rbufs.access (slotR l r h)) _
  unfold own owns
  unfold slot at hset ⊢
  iintro ⟨%f, %hf, H⟩ Hk
  iapply (wp_load_rect 𝒱₀ (c : Thread nD τ) none Set.univ (m := rbufs) (r := slotR l r h) (Finset.Subset.antisymm_iff.mp hset).2) $$ H
  iintro H
  iapply (wp_done (F := F) c)
  iapply Hk $$ [] [H]
  · ipureintro; exact hf
  · iexists f
    isplitr; · ipureintro; exact hf
    iexact H

/-- Store rows of the result: the rows become `v`, the others stay. -/
theorem wp_storeOut (c : Dev nD) (W : Wins) (o : ℕ) (ho : ∀ a, (![o, 0] : Fin 2 → ℕ) a + S128x256.size a ≤ S2048x256.size a)
    (v : FVec F S128x256 .f32) (Y : FVec F S2048x256 .f32) (Q : PUnit → sProp 𝕄) :
    own c W.out fullShare Y
      ⊢ iprop((∀ Y' : FVec F S2048x256 .f32, ⌜(∀ x, Y' ((Rect.unit (s := S2048x256) ![o, 0] S128x256.size ho).emb x) = v x)
            ∧ ∀ j, (∀ x, (Rect.unit (s := S2048x256) ![o, 0] S128x256.size ho).emb x ≠ j) → Y' j = Y j⌝
          -∗ own c W.out fullShare Y' -∗ Q ⟨⟩) -∗ WP c (storeOut W o ho v) Q) := by
  unfold own owns storeOut
  iintro ⟨%f, %hf, H⟩ Hk
  rw [wp_then]
  iapply (wp_load 𝒱₀ (c : Thread nD τ) none Set.univ (m := W.out) (r := (Rect.unit (s := S2048x256) ![o, 0] S128x256.size ho).toLoadRect)
    (View.setOn_subset_set _ _)) $$ H
  iintro H
  iapply (wp_done (F := F) c)
  iapply (wp_store 𝒱₀ (c : Thread nD τ) none Set.univ (m := W.out) (r := Rect.unit (s := S2048x256) ![o, 0] S128x256.size ho)
    (Mk := Finset.univ) (S := W.out.view.set) (View.set_slice_subset _ _)) $$ H
  iintro H
  iapply (wp_done (F := F) c)
  iapply Hk $$ %(W.out.view.read (Elt F) ((W.out.access (Rect.unit (s := S2048x256) ![o, 0] S128x256.size ho)).write (Elt F) f v Finset.univ)) [] [H]
  · ipureintro
    constructor
    · intro x
      exact congrFun (View.read_write_univ (v := W.out.access (Rect.unit (s := S2048x256) ![o, 0] S128x256.size ho)) f v) x
    · intro j hj
      rw [← hf]
      refine View.read_congr_at j (View.write_of_not_mem (v := W.out.access (Rect.unit (s := S2048x256) ![o, 0] S128x256.size ho)) f v Finset.univ fun hm => ?_)
      obtain ⟨x, -, hx⟩ := Finset.mem_map.mp hm
      exact hj x (W.out.view.emb.injective hx)
  · iexists _
    isplitr
    rotate_left
    · iexact H
    · ipureintro; rfl

end Cert.KernelIdeal.Mlp

end
-- ==== Proof.Block.lean ====
module

public import proofs.«01_k».proof.Proof.Own

/-! # A block is its two halves

The device's own 256 rows of a stage are loaded (and, at the entry, stored) as one block, but sent half by half. -/

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

/-- Where a half's index lies in the block. -/
def upIdx (h : Fin 2) (i : S128x256.Idx) : S256x256.Idx :=
  ix2 (n0 := 256) (n1 := 256) ⟨128 * h.val + (i 0).val, by
    have h0 : (i 0).val < 128 := (i 0).isLt
    have := h.isLt; omega⟩ (i 1)

theorem up_surj (y : S256x256.Idx) : ∃ h i, upIdx h i = y := by
  have h0 : (y 0).val < 256 := (y 0).isLt
  refine ⟨⟨(y 0).val / 128, by omega⟩, ix2 (n0 := 128) (n1 := 256) ⟨(y 0).val % 128, Nat.mod_lt _ (by decide)⟩ (y 1), ?_⟩
  conv_rhs => rw [eq_ix2 y]
  unfold upIdx
  congr 1
  exact Fin.ext (by show 128 * ((y 0).val / 128) + (y 0).val % 128 = (y 0).val; omega)

theorem up_half {h h' : Fin 2} {i i' : S128x256.Idx} (e : upIdx h i = upIdx h' i') : h = h' := by
  have e0 : 128 * h.val + (i 0).val = 128 * h'.val + (i' 0).val := congrArg (fun y : S256x256.Idx => (y 0).val) e
  have h0 : (i 0).val < 128 := (i 0).isLt
  have h1 : (i' 0).val < 128 := (i' 0).isLt
  exact Fin.ext (by omega)

theorem emb_block (g : Option (Fin 3)) (c : Dev nD) (h : Fin 2) (x : S128x256.Idx) :
    HEq (((gat g).access (blockR c)).emb (upIdx h x)) ((gatOwn g c h).view.emb x) := by
  have hx : (x 0).val < 128 := (x 0).isLt
  have hc : c.val < 8 := c.isLt
  have hh := h.isLt
  cases g with
  | none =>
    refine heq_of_eq ?_
    show (blockR c).emb (upIdx h x) = (ownR2 c h).emb x
    rw [eq_ix2 ((blockR c).emb (upIdx h x)), eq_ix2 ((ownR2 c h).emb x)]
    congr 1
    refine Fin.ext ?_
    show (Scalar.muli (me c) 256#32).toNat + 1 * (128 * h.val + (x 0).val) = ownRow c h + 1 * (x 0).val
    rw [blockRow_eq, ownRow_eq]; omega
  | some l =>
    refine heq_of_eq ?_
    have e1 := emb_plane_rows xns l (Scalar.muli (me c) 256#32).toNat 256 (block_inb c)
      ⟨128 * h.val + (x 0).val, by omega⟩ (x 1) (by rw [blockRow_eq]; show 256 * c.val + (128 * h.val + (x 0).val) < 2048; omega)
    have e2 := emb_rows3 xns l (ownRow c h) (ownRow_inb3 l c h) (x 0) (x 1) (by rw [ownRow_eq]; omega)
    have e3 : (ix2 (x 0) (x 1) : S128x256.Idx) = x := (eq_ix2 x).symm
    have e4 : (rows3 xns l (ownRow c h) (ownRow_inb3 l c h)).view.emb x = _ := (congrArg _ e3.symm).trans e2
    refine (e1.trans ?_).trans e4.symm
    congr 1
    refine Shape.idx3_ext rfl ?_ rfl
    show (Scalar.muli (me c) 256#32).toNat + (128 * h.val + (x 0).val) = ownRow c h + (x 0).val
    rw [blockRow_eq, ownRow_eq]; omega

/-- The device's own block of a stage, as a load names it. -/
def ownBlock (c : Dev nD) (g : Option (Fin 3)) (q : PosShare TreeShare) (B : FVec F S256x256 .bf16) : sProp 𝕄 :=
  iprop(∃ f, ⌜((gat g).access (blockR c)).read (Elt F) f = B⌝
    ∗ (((gat g).access (blockR c)).loc (c : Thread nD τ) ↦[((gat g).access (blockR c)).set]{q} f))

/-- The two halves of an index set, in the block's own buffer. -/
theorem block_pieces {X Y : Type} [DecidableEq Y] [Fintype X] {Z : Type} [Fintype Z] (E : X ↪ Y) (H : Fin 2 → Z ↪ Y) (up : Fin 2 → Z → X)
    (hs : ∀ y, ∃ h i, up h i = y) (hi : ∀ {h h' i i'}, up h i = up h' i' → h = h')
    (he : ∀ h i, E (up h i) = H h i) :
    Disjoint (Finset.univ.map (H 0)) (Finset.univ.map (H 1)) ∧ Finset.univ.map E = Finset.univ.map (H 0) ∪ Finset.univ.map (H 1) := by
  constructor
  · rw [Finset.disjoint_left]
    intro y h0 h1
    obtain ⟨i, -, rfl⟩ := Finset.mem_map.mp h0
    obtain ⟨i', -, e⟩ := Finset.mem_map.mp h1
    rw [← he, ← he] at e
    exact absurd (hi (E.injective e)) (by decide)
  · ext y
    constructor
    · intro hy
      obtain ⟨x, -, rfl⟩ := Finset.mem_map.mp hy
      obtain ⟨h, i, rfl⟩ := hs x
      rw [he]
      match h with
      | 0 => exact Finset.mem_union_left _ (Finset.mem_map_of_mem _ (Finset.mem_univ _))
      | 1 => exact Finset.mem_union_right _ (Finset.mem_map_of_mem _ (Finset.mem_univ _))
    · intro hy
      rcases Finset.mem_union.mp hy with hy | hy
      all_goals
        obtain ⟨i, -, rfl⟩ := Finset.mem_map.mp hy
        rw [← he]
        exact Finset.mem_map_of_mem _ (Finset.mem_univ _)

/-- A location's elements under `E`, held at what `B` reads, are the two halves held at what theirs read. -/
theorem two_halves {ℓ : Loc nD τ sig} {X Z : Type} [Fintype X] [Fintype Z] {α : Type} (hα : Elt F ℓ.ty.elt = α)
    (E : X ↪ Idx ℓ) (H : Fin 2 → Z ↪ Idx ℓ) (up : Fin 2 → Z → X)
    (hs : ∀ y, ∃ h i, up h i = y) (hi : ∀ {h h' i i'}, up h i = up h' i' → h = h')
    (he : ∀ h i, E (up h i) = H h i) (q : PosShare TreeShare) (B : X → α) :
    (iprop(∃ f : Buf (Elt F) ℓ, ⌜(fun x => cast hα (f (E x))) = B⌝ ∗ (ℓ ↦[Finset.univ.map E]{q} f)) : sProp 𝕄)
      ⊣⊢ iprop((∃ f : Buf (Elt F) ℓ, ⌜(fun z => cast hα (f (H 0 z))) = fun z => B (up 0 z)⌝ ∗ (ℓ ↦[Finset.univ.map (H 0)]{q} f))
        ∗ (∃ f : Buf (Elt F) ℓ, ⌜(fun z => cast hα (f (H 1 z))) = fun z => B (up 1 z)⌝ ∗ (ℓ ↦[Finset.univ.map (H 1)]{q} f))) := by
  have hp := block_pieces E H up hs hi he
  constructor
  · iintro ⟨%f, %hf, H⟩
    rw [hp.2]
    ihave H := ((pointsTo_union hp.1).1) $$ H
    icases H with ⟨H0, H1⟩
    isplitl [H0]
    · iexists f
      isplitr
      · ipureintro
        rw [← hf]; funext x
        exact congrArg (fun i => cast hα (f i)) (he 0 x).symm
      · iexact H0
    · iexists f
      isplitr
      · ipureintro
        rw [← hf]; funext x
        exact congrArg (fun i => cast hα (f i)) (he 1 x).symm
      · iexact H1
  · iintro ⟨⟨%f, %hf, H0⟩, %g, %hg, H1⟩
    iexists ((Finset.univ.map (H 1)).piecewise g f)
    isplitr
    · ipureintro
      funext y
      obtain ⟨h, i, rfl⟩ := hs y
      rw [he]
      match h with
      | 0 =>
        rw [Finset.piecewise_eq_of_notMem _ _ _ (fun hm => Finset.disjoint_left.mp hp.1 (Finset.mem_map_of_mem _ (Finset.mem_univ _)) hm)]
        exact congrFun hf i
      | 1 =>
        rw [Finset.piecewise_eq_of_mem _ _ _ (Finset.mem_map_of_mem _ (Finset.mem_univ _))]
        exact congrFun hg i
    · rw [hp.2]
      iapply (pointsTo_join hp.1)
      isplitl [H0]; · iexact H0
      iexact H1

/-- The device's own block is its two halves. -/
theorem block_halves (c : Dev nD) (g : Option (Fin 3)) (q : PosShare TreeShare) (B : FVec F S256x256 .bf16) :
    ownBlock c g q B ⊣⊢ (iprop(own c (gatOwn g c 0) q (rowsOf 0 B) ∗ own c (gatOwn g c 1) q (rowsOf 1 B)) : sProp 𝕄) := by
  have he := emb_block g c
  cases g with
  | none =>
    exact two_halves (F := F) (ℓ := xfull.view.loc (c : Thread nD τ)) rfl ((gat none).access (blockR c)).emb
      (fun h => (gatOwn none c h).view.emb) upIdx up_surj up_half (fun h i => eq_of_heq (he h i)) q B
  | some l =>
    exact two_halves (F := F) (ℓ := xns.view.loc (c : Thread nD τ)) rfl ((gat (some l)).access (blockR c)).emb
      (fun h => (gatOwn (some l) c h).view.emb) upIdx up_surj up_half (fun h i => eq_of_heq (he h i)) q B

/-- Load the device's own block of a stage. -/
theorem wp_loadOwn (c : Dev nD) (g : Option (Fin 3)) (q : PosShare TreeShare) (B : FVec F S256x256 .bf16)
    (Q : Vec F S256x256 .bf16 → sProp 𝕄) :
    ownBlock c g q B ⊢ iprop((ownBlock c g q B -∗ Q B) -∗ WP c (loadOwn g c) Q) := by
  unfold ownBlock
  iintro H Hk
  iapply (wp_load_at c (m := gat g) (r := blockR c) (Prog.ret) Q q B) $$ H
  iintro H
  iapply (wp_done (F := F) c)
  iapply Hk $$ H

/-- Store the device's own block of the first stage. -/
theorem wp_storeBlock (c : Dev nD) {hx hm} (v : FVec F S256x256 .bf16) (B : FVec F S256x256 .bf16) (Q : PUnit → sProp 𝕄) :
    ownBlock c none fullShare B
      ⊢ iprop((ownBlock c none fullShare v -∗ Q ⟨⟩) -∗ WP c (Prog.lift (.store xfull (blockR c) v Finset.univ hx hm)) Q) := by
  unfold ownBlock gat
  iintro ⟨%f, %hf, H⟩ Hk
  iapply (wp_store 𝒱₀ (c : Thread nD τ) none Set.univ (m := xfull) (r := blockR c)
    (Mk := Finset.univ) (S := (xfull.access (blockR c)).set) (Finset.Subset.refl _)) $$ H
  iintro H
  iapply (wp_done (F := F) c)
  iapply Hk
  iexists _
  isplitr
  rotate_left
  · iexact H
  · ipureintro; exact View.read_write_univ (v := xfull.access (blockR c)) f v

end Cert.KernelIdeal.Mlp

end
-- ==== Proof.Sched.lean ====
module

public import proofs.«01_k».proof.Proof.Block

/-! # The protocol

Every device has one cell per semaphore it waits on: the barrier, and for each transfer `t = (k, r, h)` the send cell
(credited when the transfer has been read out) and the receive cell (credited when the peer's transfer has landed).
Every cell is used once.

* The BARRIER cell of `c`: peer `r` pays duty `r`, one unit, and hands over every place in its own memory that `c` will
  write (`barPay`). So no transfer lands before its receiver has given the place away.
* The RECEIVE cell `t` of `c`: peer `r` pays it by its transfer `t`, and the landed rows come with it (`rcvPay`).
* The SEND cell `t` of `c`: the device's own transfer pays it, and the lent source comes back (`sndPay`). A gathered half is
  sent seven times at once, and loaded while the copies are under way: each copy borrows a share, the load a further one. -/

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok)

variable {F : FTy → Type} [FloatOps F]

local notation "𝕄" => MT nD τ sig Unit (Elt F) ℕ UU ℕ

/-! ## Transfers and cells -/

def kindList : List Kind :=
  [.gather none, .scatter 0, .gather (some 0), .scatter 1, .gather (some 1), .scatter 2, .gather (some 2)]

theorem mem_kindList (k : Kind) : k ∈ kindList := by
  match k with
  | .gather none => decide
  | .scatter 0 => decide
  | .gather (some 0) => decide
  | .scatter 1 => decide
  | .gather (some 1) => decide
  | .scatter 2 => decide
  | .gather (some 2) => decide

instance : Fintype Kind := ⟨kindList.toFinset, fun k => List.mem_toFinset.mpr (mem_kindList k)⟩

theorem kind_univ : (Finset.univ : Finset Kind) = kindList.toFinset := rfl
theorem kind_nodup : kindList.Nodup := by decide

theorem phase_inj : ∀ k k' : Kind, k.phase = k'.phase → k = k' := by decide

/-- A transfer of a device: its phase's kind, the peer's number, the half. -/
abbrev T : Type := Kind × Fin 7 × Fin 2

/-- The cells of a device: the barrier, and a send (`false`) and a receive (`true`) cell per transfer. -/
abbrev Cell : Type := Unit ⊕ (Bool × T)
abbrev cBar : Cell := .inl ()
abbrev cSnd (t : T) : Cell := .inr (false, t)
abbrev cRcv (t : T) : Cell := .inr (true, t)

/-- The scoped cells' semaphores, -/
def osem : Bool × T → SemLoc sig
  | (false, t) => .dma (sendS t.1 t.2.1 t.2.2)
  | (true, t) => .dma (recvS t.1 t.2.1 t.2.2)

/-- and every cell's. -/
def csem : Cell → SemLoc sig
  | .inl _ => .reg barS
  | .inr x => osem x

theorem sem4_val : ∀ (φ r : Fin 7) (h : Fin 2), (semOf cc0_scratch4 φ r h).val = 8 + cellNat φ r h := by decide +kernel
theorem sem5_val : ∀ (φ r : Fin 7) (h : Fin 2), (semOf cc0_scratch5 φ r h).val = 106 + cellNat φ r h := by decide +kernel

theorem cellNat_inj {φ r φ' r' : Fin 7} {h h' : Fin 2} (e : cellNat φ r h = cellNat φ' r' h') : φ = φ' ∧ r = r' ∧ h = h' := by
  unfold cellNat at e
  have := r.isLt; have := r'.isLt; have := h.isLt; have := h'.isLt
  exact ⟨Fin.ext (by omega), Fin.ext (by omega), Fin.ext (by omega)⟩

theorem cellNat_lt (φ r : Fin 7) (h : Fin 2) : cellNat φ r h < 98 := by
  unfold cellNat; have := φ.isLt; have := r.isLt; have := h.isLt; omega

theorem osem_injective : Function.Injective osem := by
  rintro ⟨b, k, r, h⟩ ⟨b', k', r', h'⟩ e
  have l1 := cellNat_lt k.phase r h
  have l2 := cellNat_lt k'.phase r' h'
  match b, b' with
  | false, false =>
    have e' : sendS k r h = sendS k' r' h' := SemLoc.dma.inj e
    have ev := congrArg Fin.val e'
    rw [sem4_val, sem4_val] at ev
    obtain ⟨e1, e2, e3⟩ := cellNat_inj (by omega : cellNat k.phase r h = cellNat k'.phase r' h')
    rw [phase_inj _ _ e1, e2, e3]
  | true, true =>
    have e' : recvS k r h = recvS k' r' h' := SemLoc.dma.inj e
    have ev := congrArg Fin.val e'
    rw [sem5_val, sem5_val] at ev
    obtain ⟨e1, e2, e3⟩ := cellNat_inj (by omega : cellNat k.phase r h = cellNat k'.phase r' h')
    rw [phase_inj _ _ e1, e2, e3]
  | false, true =>
    have e' : sendS k r h = recvS k' r' h' := SemLoc.dma.inj e
    have ev := congrArg Fin.val e'
    rw [sem4_val, sem5_val] at ev
    omega
  | true, false =>
    have e' : recvS k r h = sendS k' r' h' := SemLoc.dma.inj e
    have ev := congrArg Fin.val e'
    rw [sem4_val, sem5_val] at ev
    omega

theorem osem_ne_bar (x : Bool × T) : osem x ≠ .reg barS := by
  rcases x with ⟨b, t⟩
  cases b <;> exact fun h => by cases h

theorem csem_injective : Function.Injective csem := by
  rintro (a | x) (b | y) e
  · rfl
  · exact absurd e.symm (osem_ne_bar y)
  · exact absurd e (osem_ne_bar x)
  · exact congrArg _ (osem_injective e)

open Classical in
/-- The cell on a semaphore. -/
def dec (s : SemLoc sig) : Option Cell := if h : ∃ x, csem x = s then some h.choose else none

theorem dec_csem (x : Cell) : dec (csem x) = some x := by
  unfold dec
  rw [dif_pos ⟨x, rfl⟩]
  exact congrArg some (csem_injective (Exists.choose_spec (⟨x, rfl⟩ : ∃ y, csem y = csem x)))

/-- Cell `x` of device `c`. -/
abbrev kcell (ck : Dev nD × Cell) : GSem nD τ sig := ((ck.1 : Thread nD τ), csem ck.2)
abbrev barCell (c : Dev nD) : GSem nD τ sig := kcell (c, cBar)
abbrev sndCell (c : Dev nD) (t : T) : GSem nD τ sig := kcell (c, cSnd t)
abbrev rcvCell (c : Dev nD) (t : T) : GSem nD τ sig := kcell (c, cRcv t)

theorem kcell_injective : Function.Injective kcell := by
  rintro ⟨c, x⟩ ⟨c', x'⟩ e
  have e1 : c = c' := congrArg (fun g : GSem nD τ sig => g.1.1) e
  have e2 : x = x' := csem_injective (congrArg (fun g : GSem nD τ sig => g.2) e)
  rw [e1, e2]

/-! ## Credits and shares -/

/-- What one transfer credits. -/
abbrev N : ℕ := (xfull.slice (ownR2 0 0) (fun _ => rfl)).view.dmaCredit
theorem N_pos : 0 < N := View.dmaCredit_pos _ (by decide)

theorem credit_dst (k : Kind) (c : Dev nD) (r : Fin 7) (h : Fin 2) : (dstV k c r h).view.dmaCredit = N := by
  match k with
  | .gather none => rfl
  | .gather (some _) => rfl
  | .scatter _ => rfl

theorem credit_src (k : Kind) (c : Dev nD) (r : Fin 7) (h : Fin 2) : (srcV k c r h).view.dmaCredit = N := by
  match k with
  | .gather none => rfl
  | .gather (some _) => rfl
  | .scatter _ => rfl

/-- The share of its source a transfer borrows. -/
def shr (k : Kind) (r : Fin 7) : PosShare TreeShare :=
  match k with
  | .gather _ => shareTokN fullShare r.val
  | .scatter _ => fullShare

/-- What is left of a gathered half when the seven copies have borrowed theirs. -/
abbrev kept : PosShare TreeShare := shareDrop fullShare 7

/-! ## What the cells hand over -/

variable (A : Inputs F)

/-- What peer `r` gives device `c` at the barrier: every place in the peer's memory `c` will write. -/
def barPay (c : Dev nD) (r : Fin 7) : sProp 𝕄 :=
  bigSep Finset.univ fun x : Kind × Fin 2 => iprop(∃ X, own (peer c r) (dstV x.1 c r x.2) fullShare X)

/-- What lands with transfer `t`. -/
def rcvPay (c : Dev nD) (t : T) : sProp 𝕄 :=
  own c (dstV t.1 (peer c t.2.1) t.2.1 t.2.2) fullShare (val A t.1 (peer c t.2.1) t.2.1 t.2.2)

/-- What comes back when transfer `t` has been read out. -/
def sndPay (c : Dev nD) (t : T) : sProp 𝕄 :=
  own c (srcV t.1 c t.2.1 t.2.2) (shr t.1 t.2.1) (val A t.1 c t.2.1 t.2.2)

instance barPay_storable (c : Dev nD) (r : Fin 7) : BI.Storable (upEmb : UEmb _ 𝕄) (barPay (F := F) c r) := by
  unfold barPay; infer_instance
instance rcvPay_storable (c : Dev nD) (t : T) : BI.Storable (upEmb : UEmb _ 𝕄) (rcvPay A c t) := by
  unfold rcvPay; infer_instance
instance sndPay_storable (c : Dev nD) (t : T) : BI.Storable (upEmb : UEmb _ 𝕄) (sndPay A c t) := by
  unfold sndPay; infer_instance

def payOf (c : Dev nD) (x : Option Cell) (d : Fin 7) : sProp 𝕄 :=
  match x with
  | some (.inl _) => barPay c d
  | some (.inr (false, t)) => sndPay A c t
  | some (.inr (true, t)) => rcvPay A c t
  | none => iprop(emp)

def dutiesOf (x : Option Cell) : Finset (Fin 7) :=
  match x with
  | some (.inl _) => Finset.univ
  | some (.inr _) => {0}
  | none => ∅

/-- The schedule: one round. -/
def Rd : Rounds.Schedule (GSem nD τ sig) (Fin 7) 𝕄 where
  duties g r := if r = 0 ∧ g.1.2 = .tc then dutiesOf (dec g.2) else ∅
  unitless _ := False
  amount g _ _ := if g.2 = .reg barS then 1 else N
  payload g _ d := payOf A g.1.1 (dec g.2) d
  amount_pos g _ _ _ := by
    by_cases h : g.2 = .reg barS
    · rw [if_pos h]; exact Nat.one_pos
    · rw [if_neg h]; exact N_pos

instance Rd_payload_storable (g : GSem nD τ sig) (r : ℕ) (d : Fin 7) :
    BI.Storable (upEmb : UEmb _ 𝕄) ((Rd A).payload g r d) := by
  show BI.Storable upEmb (payOf A g.1.1 (dec g.2) d)
  match dec g.2 with
  | some (.inl _) => exact barPay_storable _ _
  | some (.inr (false, t)) => exact sndPay_storable A _ _
  | some (.inr (true, t)) => exact rcvPay_storable A _ _
  | none => unfold payOf; infer_instance

theorem duties_bar (c : Dev nD) : (Rd A).duties (barCell c) 0 = Finset.univ := by
  show (if (0 : ℕ) = 0 ∧ (c : Thread nD τ).2 = .tc then dutiesOf (dec (csem cBar)) else ∅) = _
  rw [if_pos ⟨rfl, rfl⟩, dec_csem]; rfl
theorem duties_snd (c : Dev nD) (t : T) : (Rd A).duties (sndCell c t) 0 = {0} := by
  show (if (0 : ℕ) = 0 ∧ (c : Thread nD τ).2 = .tc then dutiesOf (dec (csem (cSnd t))) else ∅) = _
  rw [if_pos ⟨rfl, rfl⟩, dec_csem]; rfl
theorem duties_rcv (c : Dev nD) (t : T) : (Rd A).duties (rcvCell c t) 0 = {0} := by
  show (if (0 : ℕ) = 0 ∧ (c : Thread nD τ).2 = .tc then dutiesOf (dec (csem (cRcv t))) else ∅) = _
  rw [if_pos ⟨rfl, rfl⟩, dec_csem]; rfl
theorem duties_later (g : GSem nD τ sig) : ∀ r, 1 ≤ r → (Rd A).duties g r = ∅ :=
  fun r hr => by dsimp only [Rd]; rw [if_neg fun h => by omega]

theorem amount_bar (c : Dev nD) (d : Fin 7) : (Rd A).amount (barCell c) 0 d = 1 := by dsimp only [Rd]; exact if_pos rfl
theorem amount_snd (c : Dev nD) (t : T) (d : Fin 7) : (Rd A).amount (sndCell c t) 0 d = N := by
  dsimp only [Rd]; exact if_neg (osem_ne_bar (false, t))
theorem amount_rcv (c : Dev nD) (t : T) (d : Fin 7) : (Rd A).amount (rcvCell c t) 0 d = N := by
  dsimp only [Rd]; exact if_neg (osem_ne_bar (true, t))

theorem expect_bar (c : Dev nD) : (Rd A).expect (barCell c) 0 = 7 := by
  unfold Schedule.expect Schedule.amountOf
  rw [duties_bar, Finset.sum_congr rfl fun d _ => amount_bar A c d, Finset.sum_const, Finset.card_univ, Fintype.card_fin, smul_eq_mul]
theorem expect_snd (c : Dev nD) (t : T) : (Rd A).expect (sndCell c t) 0 = N := by
  unfold Schedule.expect Schedule.amountOf; rw [duties_snd, Finset.sum_singleton, amount_snd]
theorem expect_rcv (c : Dev nD) (t : T) : (Rd A).expect (rcvCell c t) 0 = N := by
  unfold Schedule.expect Schedule.amountOf; rw [duties_rcv, Finset.sum_singleton, amount_rcv]

theorem payload_bar (c : Dev nD) (d : Fin 7) : (Rd A).payload (barCell c) 0 d = barPay c d := by
  show payOf A c (dec (csem cBar)) d = _
  rw [dec_csem]; rfl
theorem payload_snd (c : Dev nD) (t : T) (d : Fin 7) : (Rd A).payload (sndCell c t) 0 d = sndPay A c t := by
  show payOf A c (dec (csem (cSnd t))) d = _
  rw [dec_csem]; rfl
theorem payload_rcv (c : Dev nD) (t : T) (d : Fin 7) : (Rd A).payload (rcvCell c t) 0 d = rcvPay A c t := by
  show payOf A c (dec (csem (cRcv t))) d = _
  rw [dec_csem]; rfl

theorem rest_bar (c : Dev nD) : bigSep ((Rd A).duties (barCell c) 0 \ ∅) (fun d => (Rd A).payload (barCell c) 0 d)
    = bigSep Finset.univ fun r => barPay (F := F) c r := by
  rw [Finset.sdiff_empty, duties_bar]; exact bigSep_congr fun d _ => payload_bar A c d
theorem rest_snd (c : Dev nD) (t : T) : bigSep ((Rd A).duties (sndCell c t) 0 \ ∅) (fun d => (Rd A).payload (sndCell c t) 0 d) = sndPay A c t := by
  rw [Finset.sdiff_empty, duties_snd, bigSep_singleton, payload_snd]
theorem rest_rcv (c : Dev nD) (t : T) : bigSep ((Rd A).duties (rcvCell c t) 0 \ ∅) (fun d => (Rd A).payload (rcvCell c t) 0 d) = rcvPay A c t := by
  rw [Finset.sdiff_empty, duties_rcv, bigSep_singleton, payload_rcv]

/-! ## What is owed; the levels -/

/-- What a device owes its peers for the transfers still to be started, first to be started first. -/
def owedL (c : Dev nD) : List T → CellTallies nD τ sig Unit
  | [] => 0
  | t :: l => owedL c l + tallyAt (rcvCell (peer c t.2.1) t) () N

/-- The same with the barrier signals still to be sent in front of the transfers `ts`. -/
def owedSig (c : Dev nD) (ts : List T) : List (Fin 7) → CellTallies nD τ sig Unit
  | [] => owedL c ts
  | r :: l => owedSig c ts l + tallyAt (barCell (peer c r)) () 1

def L (g : GSem nD τ sig) : Finset Unit := if g.1.2 = .tc then {()} else ∅
/-- The barrier below the receive cells, these by phase; everything else at the bottom. -/
def lv (g : GSem nD τ sig) (_ : Unit) : ℕ :=
  match dec g.2 with
  | some (.inl _) => 1
  | some (.inr (true, t)) => t.1.phase.val + 2
  | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by
  show (match dec (csem cBar) with | some (.inl _) => 1 | some (.inr (true, t)) => t.1.phase.val + 2 | _ => 0) = 1
  rw [dec_csem]
theorem lv_rcv (c : Dev nD) (t : T) : lv (rcvCell c t) () = t.1.phase.val + 2 := by
  show (match dec (csem (cRcv t)) with | some (.inl _) => 1 | some (.inr (true, t)) => t.1.phase.val + 2 | _ => 0) = _
  rw [dec_csem]

theorem owedL_pos {c : Dev nD} {l : List T} {g : GSem nD τ sig} {u : Unit} (h : 0 < owedL c l g u) :
    ∃ t ∈ l, g = rcvCell (peer c t.2.1) t := by
  induction l with
  | nil => exact absurd h (Nat.lt_irrefl 0)
  | cons t l ih =>
    unfold owedL at h
    rw [Pi.add_apply, Finsupp.add_apply, tallyAt_apply] at h
    by_cases hg : g = rcvCell (peer c t.2.1) t ∧ u = ()
    · exact ⟨t, List.mem_cons_self, hg.1⟩
    · rw [if_neg hg, Nat.add_zero] at h
      obtain ⟨t', ht', e⟩ := ih h
      exact ⟨t', List.mem_cons_of_mem _ ht', e⟩

theorem owedSig_pos {c : Dev nD} {ts : List T} {l : List (Fin 7)} {g : GSem nD τ sig} {u : Unit} (h : 0 < owedSig c ts l g u) :
    (∃ t ∈ ts, g = rcvCell (peer c t.2.1) t) ∨ ∃ r ∈ l, g = barCell (peer c r) := by
  induction l with
  | nil => exact .inl (owedL_pos h)
  | cons r l ih =>
    unfold owedSig at h
    rw [Pi.add_apply, Finsupp.add_apply, tallyAt_apply] at h
    by_cases hg : g = barCell (peer c r) ∧ u = ()
    · exact .inr ⟨r, List.mem_cons_self, hg.1⟩
    · rw [if_neg hg, Nat.add_zero] at h
      rcases ih h with e | ⟨r', hr', e⟩
      · exact .inl e
      · exact .inr ⟨r', List.mem_cons_of_mem _ hr', e⟩

/-- A wait on a cell at level `b`, owing transfers of later phases only. -/
theorem mayWait_list (c : Dev nD) (sm : SemLoc sig) (b : ℕ) (hb : lv ((c : Thread nD τ), sm) () ≤ b) (l : List T)
    (hl : ∀ t ∈ l, b < t.1.phase.val + 2) :
    (levAts L lv : sProp 𝕄) ⊢ MayWait (c : Thread nD τ) sm () (owedL c l) :=
  MayOwe.of_cut (L := L) (lev := lv) b
    (fun p hp => by rw [Finset.mem_singleton.mp hp, L_tc]; exact Finset.mem_singleton_self _)
    (fun g u hg => by obtain ⟨t, -, rfl⟩ := owedL_pos hg; rw [L_tc]; exact Finset.mem_singleton_self _)
    (fun p hp => by rw [Finset.mem_singleton.mp hp]; exact hb)
    (fun g u hg => by obtain ⟨t, ht, rfl⟩ := owedL_pos hg; rw [lv_rcv]; exact hl t ht)

/-- A wait at the bottom, whatever is owed. -/
theorem mayWait_zero (c : Dev nD) (sm : SemLoc sig) (hb : lv ((c : Thread nD τ), sm) () = 0) (ts : List T) (l : List (Fin 7)) :
    (levAts L lv : sProp 𝕄) ⊢ MayWait (c : Thread nD τ) sm () (owedSig c ts l) :=
  MayOwe.of_cut (L := L) (lev := lv) 0
    (fun p hp => by rw [Finset.mem_singleton.mp hp, L_tc]; exact Finset.mem_singleton_self _)
    (fun g u hg => by
      rcases owedSig_pos hg with ⟨t, -, rfl⟩ | ⟨r, -, rfl⟩ <;> rw [L_tc] <;> exact Finset.mem_singleton_self _)
    (fun p hp => by rw [Finset.mem_singleton.mp hp]; exact le_of_eq hb)
    (fun g u hg => by
      rcases owedSig_pos hg with ⟨t, -, rfl⟩ | ⟨r, -, rfl⟩
      · rw [lv_rcv]; omega
      · rw [lv_bar]; omega)

end Cert.KernelIdeal.Mlp

end
-- ==== Proof.Ops.lean ====
module

public import proofs.«01_k».proof.Proof.Sched

/-! # The protocol's operations

One rule per signal, transfer and wait, in the protocol's own terms. `recs K` is what everybody knows: every cell's
invariant, that every cell is in its round, and the levels. -/

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok)

variable {F : FTy → Type} [FloatOps F]

local notation "𝕄" => MT nD τ sig Unit (Elt F) ℕ UU ℕ

variable (A : Inputs F) (K : Dev nD × Cell → ℕ)

/-- What everybody knows. -/
def recs : sProp 𝕄 :=
  iprop((bigSep Finset.univ fun ck : Dev nD × Cell => cellInv ER (Rd A) (K ck) (kcell ck))
    ∗ (bigSep Finset.univ fun ck : Dev nD × Cell => reached ER (kcell ck) 0) ∗ levAts L lv)

instance recs_persistent : BI.Persistent (recs A K) := by unfold recs; infer_instance

/-- Of a family over all indices, one. -/
theorem bigSep_pick {I : Type} [Fintype I] [DecidableEq I] (Φ : I → sProp 𝕄) (i : I) : (bigSep Finset.univ Φ) ⊢ Φ i :=
  bigSep_elim (Finset.mem_univ i)

theorem recs_inv (ck : Dev nD × Cell) : recs A K ⊢ cellInv ER (Rd A) (K ck) (kcell ck) := by
  unfold recs
  iintro ⟨H, -⟩
  iapply (bigSep_pick (fun ck : Dev nD × Cell => (cellInv ER (Rd A) (K ck) (kcell ck) : sProp 𝕄)) ck) $$ H

theorem recs_reached (ck : Dev nD × Cell) : recs A K ⊢ reached ER (kcell ck) 0 := by
  unfold recs
  iintro ⟨-, H, -⟩
  iapply (bigSep_pick (fun ck : Dev nD × Cell => (reached ER (kcell ck) 0 : sProp 𝕄)) ck) $$ H

theorem recs_lev : recs A K ⊢ levAts L lv := by
  unfold recs
  iintro ⟨-, -, H⟩
  iexact H

/-- What device `c` owes, whatever waits it has recorded. -/
def Owes (c : Dev nD) (O : CellTallies nD τ sig Unit) : sProp 𝕄 := iprop(∃ W, owes (c : Thread nD τ) O W)

/-- What device `c` holds for receiving transfer `t`, -/
def Rv (c : Dev nD) (t : T) : sProp 𝕄 := iprop(atPos ER (rcvCell c t) 0 ∅ 0 ∗ cred (tallyAt (rcvCell c t) () N))
/-- once it has received it, -/
def Got (c : Dev nD) (t : T) : sProp 𝕄 := iprop(rcvPay A c t ∗ semVal (rcvCell c t) 0)
/-- the tokens for starting its own transfer `t`, -/
def Tk (c : Dev nD) (t : T) : sProp 𝕄 :=
  iprop(atPos ER (sndCell c t) 0 ∅ 0 ∗ dutyTok ER (sndCell c t) 0 (0 : Fin 7) ∗ dutyTok ER (rcvCell (peer c t.2.1) t) 0 (0 : Fin 7))
/-- the place on the peer it writes, -/
def Ld (c : Dev nD) (t : T) : sProp 𝕄 := iprop(∃ X, own (peer c t.2.1) (dstV t.1 c t.2.1 t.2.2) fullShare X)
/-- and both; -/
def Sd (c : Dev nD) (t : T) : sProp 𝕄 := iprop(Tk c t ∗ Ld c t)
/-- while it is under way, -/
def Cr (c : Dev nD) (t : T) : sProp 𝕄 := iprop(atPos ER (sndCell c t) 0 ∅ 0 ∗ cred (tallyAt (sndCell c t) () N))
/-- and when it has been read out. -/
def Dn (c : Dev nD) (t : T) : sProp 𝕄 := iprop(sndPay A c t ∗ semVal (sndCell c t) 0)

/-- The barrier signal to peer `r`. -/
theorem wp_sig (c : Dev nD) (ts : List T) (r : Fin 7) (l : List (Fin 7)) (Q : PUnit → sProp 𝕄) :
    iprop(recs A K ∗ Owes c (owedSig c ts (r :: l)) ∗ dutyTok ER (barCell (peer c r)) 0 r ∗ barPay (peer c r) r)
      ⊢ iprop((Owes c (owedSig c ts l) -∗ Q ⟨⟩) -∗ WP c (signal c r) Q) := by
  unfold Owes
  iintro ⟨#HR, ⟨%W, HO⟩, Htok, Hpay⟩ Hk
  have hp : (Rd A).payload ((peer c r : Thread nD τ), SemLoc.reg barS) 0 r = barPay (peer c r) r := payload_bar A (peer c r) r
  unfold signal
  simp only [semSignalWord, Prog.lift]
  iapply (Rounds.wp_signal 𝒱₀ ER (Rd A) (c : Thread nD τ) none (dst := (peer c r : Thread nD τ)) (κ := K (peer c r, cBar)) (r := 0)
      (d := r) ((duties_bar A (peer c r)).symm ▸ Finset.mem_univ _) ((amount_bar A (peer c r) r).trans (by decide)) () (owedSig c ts l) rfl)
    $$ [HO Htok Hpay]
  · isplitr; · iapply (recs_inv A K (peer c r, cBar)); iexact HR
    isplitl [HO]; · iexact HO
    isplitl [Htok]; · iexact Htok
    isplitl [Hpay]; · iapply (Entails.of_eq hp.symm) $$ Hpay
    iapply (recs_reached A K (peer c r, cBar)); iexact HR
  iintro HO
  iapply (wp_done (F := F) c)
  iapply Hk
  iexists W; iexact HO

/-- The wait for all seven peers. -/
theorem wp_barrier (c : Dev nD) (ts : List T) (Q : PUnit → sProp 𝕄) :
    iprop(recs A K ∗ Owes c (owedL c ts) ∗ atPos ER (barCell c) 0 ∅ 0 ∗ cred (tallyAt (barCell c) () 7))
      ⊢ iprop((Owes c (owedL c ts) ∗ semVal (barCell c) 0 ∗ (bigSep Finset.univ fun r => barPay (F := F) c r) -∗ Q ⟨⟩)
        -∗ WP c (semWaitWord barS 7#32) Q) := by
  unfold Owes
  iintro ⟨#HR, ⟨%W, HO⟩, Hat, Hc⟩ Hk
  simp only [semWaitWord, Prog.lift]
  iapply (Rounds.wp_wait_rest_token 𝒱₀ ER (Rd A) (c : Thread nD τ) none (κ := K (c, cBar))
      (wpE_semWait_eq 𝒱₀ (c : Thread nD τ) none Set.univ) (Set.mem_univ _) () (O := owedL c ts) (W := W) (R := 0) (m := 0) (T := ∅)
      ((show 0 + (7#32 : BitVec 32).toNat = 7 by decide).trans (expect_bar A c).symm)) $$ [Hc HO Hat]
  · isplitr; · iapply (recs_inv A K (c, cBar)); iexact HR
    isplitl [Hc]; · iexact Hc
    isplitl [HO]; · iexact HO
    isplitr
    · iapply (mayWait_list c (.reg barS) 1 (le_of_eq (lv_bar c)) ts (fun t _ => by omega))
      iapply (recs_lev A K); iexact HR
    iexact Hat
  iintro ⟨HO, Hat, -, Hpay⟩
  imod (Rounds.cell_close ER (Rd A) (Set.mem_univ (K (c, cBar))) (fun h => h) (R := 0 + 1) (duties_later A (barCell c))) $$ [Hat] with Hz
  · isplitr; · iapply (recs_inv A K (c, cBar)); iexact HR
    iexact Hat
  iapply (wp_done (F := F) c)
  iapply Hk
  isplitl [HO]; · iexists _; iexact HO
  isplitl [Hz]; · iexact Hz
  rw [← rest_bar A c]; iexact Hpay

/-- The start of transfer `t`. -/
theorem wp_snd (c : Dev nD) (k : Kind) (r : Fin 7) (h : Fin 2) (l : List T) (Q : PUnit → sProp 𝕄) :
    iprop(recs A K ∗ Owes c (owedL c ((k, r, h) :: l)) ∗ sndPay A c (k, r, h) ∗ Sd c (k, r, h))
      ⊢ iprop((Owes c (owedL c l) ∗ Cr c (k, r, h) -∗ Q ⟨⟩) -∗ WP c (send k c r h) Q) := by
  unfold Owes Sd Tk Ld sndPay own owns
  iintro ⟨#HR, ⟨%W, HO⟩, ⟨%f, %hf, Hs⟩, ⟨Hat, Ht1, Ht2⟩, ⟨%X, %fd, %hfd, Hd⟩⟩ Hk
  unfold send Prog.lift
  iapply (Rounds.wp_send_pointsTo 𝒱₀ ER (Rd A) (c : Thread nD τ) none (c' := (peer c r : Thread nD τ))
      (src := srcV k c r h) (dst := dstV k c r h) (sS := .dma (sendS k r h)) (sem := .dma (recvS k r h))
      (κ₁ := K (c, cSnd (k, r, h))) (κ₂ := K (peer c r, cRcv (k, r, h)))
      (r₁ := 0) (r₂ := 0) (d₁ := (0 : Fin 7)) (d₂ := (0 : Fin 7)) (fd := fd)
      ((duties_snd A c (k, r, h)).symm ▸ Finset.mem_singleton_self _) ((duties_rcv A (peer c r) (k, r, h)).symm ▸ Finset.mem_singleton_self _)
      () () N (credit_dst k c r h) (amount_snd A c (k, r, h) 0) (amount_rcv A (peer c r) (k, r, h) 0) (owedL c l) rfl (W := W)
      (by
        refine BIBase.Entails.trans ?_ (Entails.of_eq (payload_snd A c (k, r, h) 0).symm)
        unfold sndPay own owns
        iintro H; iexists f
        isplitr; · ipureintro; exact hf
        iexact H)
      (by
        refine BIBase.Entails.trans ?_ (Entails.of_eq (payload_rcv A (peer c r) (k, r, h) 0).symm)
        unfold rcvPay own owns
        rw [peer_peer]
        iintro H; iexists _
        isplitr
        rotate_left
        · iexact H
        · ipureintro; exact (View.read_write_univ _ _).trans hf))
    $$ [Hs Hd HO Ht1 Ht2]
  · isplitr; · iapply (recs_inv A K (c, cSnd (k, r, h))); iexact HR
    isplitr; · iapply (recs_inv A K (peer c r, cRcv (k, r, h))); iexact HR
    isplitl [Hs]; · iexact Hs
    isplitl [Hd]; · iexact Hd
    isplitl [HO]; · iexact HO
    isplitl [Ht1]; · iexact Ht1
    isplitr; · iapply (recs_reached A K (c, cSnd (k, r, h))); iexact HR
    isplitl [Ht2]; · iexact Ht2
    iapply (recs_reached A K (peer c r, cRcv (k, r, h))); iexact HR
  iintro ⟨Hc, HO⟩
  iapply (wp_done (F := F) c)
  iapply Hk
  isplitl [HO]; · iexists W; iexact HO
  unfold Cr
  isplitl [Hat]; · iexact Hat
  iexact Hc

/-- The wait for what peer `r` sends. -/
theorem wp_rcv (c : Dev nD) (k : Kind) (r : Fin 7) (h : Fin 2) (l : List T) (hl : ∀ t ∈ l, k.phase < t.1.phase) (Q : PUnit → sProp 𝕄) :
    iprop(recs A K ∗ Owes c (owedL c l) ∗ Rv c (k, r, h))
      ⊢ iprop((Owes c (owedL c l) ∗ Got A c (k, r, h) -∗ Q ⟨⟩) -∗ WP c (waitRecv k c r h) Q) := by
  unfold Owes Rv
  iintro ⟨#HR, ⟨%W, HO⟩, Hat, Hc⟩ Hk
  unfold waitRecv Prog.lift
  iapply (Rounds.wp_wait_rest_token 𝒱₀ ER (Rd A) (c : Thread nD τ) none (κ := K (c, cRcv (k, r, h)))
      (wpE_waitDma2_eq 𝒱₀ (c : Thread nD τ) none Set.univ) (Set.mem_univ _) () (O := owedL c l) (W := W) (R := 0) (m := 0) (T := ∅)
      (by rw [Nat.zero_add]; exact (credit_dst k c r h).trans (expect_rcv A c (k, r, h)).symm)) $$ [Hc HO Hat]
  · isplitr; · iapply (recs_inv A K (c, cRcv (k, r, h))); iexact HR
    isplitl [Hc]; · rw [credit_dst k c r h]; iexact Hc
    isplitl [HO]; · iexact HO
    isplitr
    · iapply (mayWait_list c (csem (cRcv (k, r, h))) (k.phase.val + 2) (le_of_eq (lv_rcv c (k, r, h))) l
        (fun t ht => Nat.add_lt_add_right (hl t ht) 2))
      iapply (recs_lev A K); iexact HR
    iexact Hat
  iintro ⟨HO, Hat, -, Hpay⟩
  imod (Rounds.cell_close ER (Rd A) (Set.mem_univ (K (c, cRcv (k, r, h)))) (fun h => h) (R := 0 + 1) (duties_later A (rcvCell c (k, r, h)))) $$ [Hat] with Hz
  · isplitr; · iapply (recs_inv A K (c, cRcv (k, r, h))); iexact HR
    iexact Hat
  iapply (wp_done (F := F) c)
  iapply Hk
  isplitl [HO]; · iexists _; iexact HO
  unfold Got
  isplitl [Hpay]; · rw [← rest_rcv A c (k, r, h)]; iexact Hpay
  iexact Hz

/-- The wait until transfer `t` has been read out. -/
theorem wp_drain (c : Dev nD) (k : Kind) (r : Fin 7) (h : Fin 2) (Q : PUnit → sProp 𝕄) :
    iprop(recs A K ∗ Owes c 0 ∗ Cr c (k, r, h))
      ⊢ iprop((Owes c 0 ∗ Dn A c (k, r, h) -∗ Q ⟨⟩) -∗ WP c (waitSend k c r h) Q) := by
  unfold Owes Cr
  iintro ⟨#HR, ⟨%W, HO⟩, Hat, Hc⟩ Hk
  unfold waitSend Prog.lift
  iapply (Rounds.wp_wait_rest_token 𝒱₀ ER (Rd A) (c : Thread nD τ) none (κ := K (c, cSnd (k, r, h)))
      (wpE_waitDma2_eq 𝒱₀ (c : Thread nD τ) none Set.univ) (Set.mem_univ _) () (O := 0) (W := W) (R := 0) (m := 0) (T := ∅)
      (by rw [Nat.zero_add]; exact (credit_src k c r h).trans (expect_snd A c (k, r, h)).symm)) $$ [Hc HO Hat]
  · isplitr; · iapply (recs_inv A K (c, cSnd (k, r, h))); iexact HR
    isplitl [Hc]; · rw [credit_src k c r h]; iexact Hc
    isplitl [HO]; · iexact HO
    isplitr; · rw [MayWait_zero]; iempintro
    iexact Hat
  iintro ⟨HO, Hat, -, Hpay⟩
  imod (Rounds.cell_close ER (Rd A) (Set.mem_univ (K (c, cSnd (k, r, h)))) (fun h => h) (R := 0 + 1) (duties_later A (sndCell c (k, r, h)))) $$ [Hat] with Hz
  · isplitr; · iapply (recs_inv A K (c, cSnd (k, r, h))); iexact HR
    iexact Hat
  iapply (wp_done (F := F) c)
  iapply Hk
  isplitl [HO]; · iexists _; iexact HO
  unfold Dn
  isplitl [Hpay]; · rw [← rest_snd A c (k, r, h)]; iexact Hpay
  iexact Hz

end Cert.KernelIdeal.Mlp

end
-- ==== Proof.Loops.lean ====
module

public import proofs.«01_k».proof.Proof.Ops

/-! # Loops of the protocol

A program per element of a list, and the kernel's loops as instances. -/

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok)

variable {F : FTy → Type} [FloatOps F]

local notation "𝕄" => MT nD τ sig Unit (Elt F) ℕ UU ℕ

variable (A : Inputs F) (K : Dev nD × Cell → ℕ)

/-- A loop, from what one turn does to the state and to that turn's own resources. -/
theorem each_loop {α : Type} (c : Dev nD) (f : α → P F PUnit) (St : List α → sProp 𝕄) (Φ Ψ : α → sProp 𝕄)
    (hstep : ∀ (a : α) (rest : List α) (Q : PUnit → sProp 𝕄),
      iprop(St (a :: rest) ∗ Φ a) ⊢ iprop((St rest ∗ Ψ a -∗ Q ⟨⟩) -∗ WP c (f a) Q)) :
    ∀ (l : List α) (Q : PUnit → sProp 𝕄),
      iprop(St l ∗ bigSepL l Φ) ⊢ iprop((St [] ∗ bigSepL l Ψ -∗ Q ⟨⟩) -∗ WP c (each l f) Q)
  | [], Q => by
    unfold each
    iintro ⟨HS, H⟩ Hk
    iapply (wp_done (F := F) c)
    iapply Hk
    isplitl [HS]; · iexact HS
    iexact H
  | a :: l, Q => by
    unfold each
    rw [wp_then, bigSepL_cons', bigSepL_cons']
    iintro ⟨HS, Ha, Hl⟩ Hk
    iapply (hstep a l _) $$ [HS Ha]
    · isplitl [HS]; · iexact HS
      iexact Ha
    iintro ⟨HS, Ha⟩
    iapply (each_loop c f St Φ Ψ hstep l Q) $$ [HS Hl]
    · isplitl [HS]; · iexact HS
      iexact Hl
    iintro ⟨HS, Hl⟩
    iapply Hk
    isplitl [HS]; · iexact HS
    isplitl [Ha]; · iexact Ha
    iexact Hl

/-! ## Both halves of all peers, in any order -/

/-- Something for each half of each peer. -/
def both (Φ : Fin 7 × Fin 2 → sProp 𝕄) : sProp 𝕄 := bigSep Finset.univ Φ

theorem both_arr (Φ : Fin 7 × Fin 2 → sProp 𝕄) : both Φ = bigSepL arrHalves Φ :=
  bigSep_univ_eq_bigSepL arrHalves (by decide) (by decide) Φ
theorem both_issue (Φ : Fin 7 × Fin 2 → sProp 𝕄) : both Φ = bigSepL halfIssue Φ :=
  bigSep_univ_eq_bigSepL halfIssue (by decide) (by decide) Φ

theorem both_two (Φ : Fin 7 × Fin 2 → sProp 𝕄) (l : List (Fin 7)) (h : Finset.univ = (l.map (·, (0 : Fin 2)) ++ l.map (·, 1)).toFinset)
    (hl : (l.map (·, (0 : Fin 2)) ++ l.map (·, 1)).Nodup) :
    both Φ = iprop((bigSepL l fun r => Φ (r, 0)) ∗ (bigSepL l fun r => Φ (r, 1))) := by
  unfold both
  rw [bigSep_univ_eq_bigSepL _ h hl, bigSepL_append, bigSepL_map, bigSepL_map]

theorem both_arr_two (Φ : Fin 7 × Fin 2 → sProp 𝕄) :
    both Φ = iprop((bigSepL arrival fun r => Φ (r, 0)) ∗ (bigSepL arrival fun r => Φ (r, 1))) :=
  both_two Φ arrival (by decide) (by decide)
theorem both_issue_two (Φ : Fin 7 × Fin 2 → sProp 𝕄) :
    both Φ = iprop((bigSepL issue fun r => Φ (r, 0)) ∗ (bigSepL issue fun r => Φ (r, 1))) :=
  both_two Φ issue (by decide) (by decide)

theorem bigSepL_sep {I : Type} (l : List I) (Φ Ψ : I → sProp 𝕄) :
    (bigSepL l fun i => iprop(Φ i ∗ Ψ i)) ⊣⊢ (iprop(bigSepL l Φ ∗ bigSepL l Ψ) : sProp 𝕄) := by
  induction l with
  | nil => exact emp_sep.symm
  | cons a l ih =>
    rw [bigSepL_cons', bigSepL_cons', bigSepL_cons', ih.1.antisymm ih.2]
    constructor
    · iintro ⟨⟨H1, H2⟩, H3, H4⟩
      isplitl [H1 H3]
      · isplitl [H1]; · iexact H1
        iexact H3
      isplitl [H2]; · iexact H2
      iexact H4
    · iintro ⟨⟨H1, H3⟩, H2, H4⟩
      isplitl [H1 H2]
      · isplitl [H1]; · iexact H1
        iexact H2
      isplitl [H3]; · iexact H3
      iexact H4

theorem bigSepL_sep_eq {I : Type} (l : List I) (Φ Ψ : I → sProp 𝕄) :
    (bigSepL l fun i => iprop(Φ i ∗ Ψ i)) = (iprop(bigSepL l Φ ∗ bigSepL l Ψ) : sProp 𝕄) :=
  (bigSepL_sep l Φ Ψ).1.antisymm (bigSepL_sep l Φ Ψ).2

theorem eq_of {P Q : sProp 𝕄} (h₁ : P ⊢ Q) (h₂ : Q ⊢ P) : P = Q := h₁.antisymm h₂

/-! ## A gathered half and the shares its copies borrow -/

theorem own_toks (c : Dev nD) (g : Option (Fin 3)) (h : Fin 2) (X : FVec F S128x256 .bf16) :
    (own c (gatOwn g c h) fullShare X : sProp 𝕄)
      = iprop(own c (gatOwn g c h) kept X ∗ bigSepL issue fun r => own c (gatOwn g c h) (shr (.gather g) r) X) := by
  have e : ∀ k, (own c (gatOwn g c h) (shareDrop fullShare k) X : sProp 𝕄)
      = iprop(own c (gatOwn g c h) (shareDrop fullShare (k + 1)) X ∗ own c (gatOwn g c h) (shareTokN fullShare k) X) :=
    fun k => by
      have h2 : (own c (gatOwn g c h) (shareDrop fullShare k) X : sProp 𝕄)
        ⊣⊢ iprop(own c (gatOwn g c h) (shareDrop fullShare k).left X ∗ own c (gatOwn g c h) (shareDrop fullShare k).right X) :=
        owns_halves (Val := Elt F) (c : Thread nD τ) (gatOwn g c h) (shareDrop fullShare k) X
      exact h2.1.antisymm h2.2
  have e' : (own c (gatOwn g c h) fullShare X : sProp 𝕄) = own c (gatOwn g c h) (shareDrop fullShare 0) X := rfl
  rw [e', e 0, e 1, e 2, e 3, e 4, e 5, e 6]
  unfold issue
  show _ = iprop(own c (gatOwn g c h) (shareDrop fullShare 7) X ∗ own c (gatOwn g c h) (shareTokN fullShare 0) X
    ∗ own c (gatOwn g c h) (shareTokN fullShare 1) X ∗ own c (gatOwn g c h) (shareTokN fullShare 2) X
    ∗ own c (gatOwn g c h) (shareTokN fullShare 3) X ∗ own c (gatOwn g c h) (shareTokN fullShare 4) X
    ∗ own c (gatOwn g c h) (shareTokN fullShare 5) X ∗ own c (gatOwn g c h) (shareTokN fullShare 6) X)
  refine eq_of ?_ ?_
  · iintro ⟨⟨⟨⟨⟨⟨⟨H7, H6⟩, H5⟩, H4⟩, H3⟩, H2⟩, H1⟩, H0⟩
    isplitl [H7]; · iexact H7
    isplitl [H0]; · iexact H0
    isplitl [H1]; · iexact H1
    isplitl [H2]; · iexact H2
    isplitl [H3]; · iexact H3
    isplitl [H4]; · iexact H4
    isplitl [H5]; · iexact H5
    iexact H6
  · iintro ⟨H7, H0, H1, H2, H3, H4, H5, H6⟩
    isplitr [H0]
    · isplitr [H1]
      · isplitr [H2]
        · isplitr [H3]
          · isplitr [H4]
            · isplitr [H5]
              · isplitl [H7]; · iexact H7
                iexact H6
              iexact H5
            iexact H4
          iexact H3
        iexact H2
      iexact H1
    iexact H0

/-! ## The lists of transfers -/

/-- The gathers of half `h`, in order. -/
def gathersH (g : Option (Fin 3)) (h : Fin 2) (l : List (Fin 7)) : List T := l.map fun r => (Kind.gather g, r, h)
/-- The gathers of stage `g`, in order. -/
def gathers (g : Option (Fin 3)) : List T := gathersH g 0 issue ++ gathersH g 1 issue
/-- The scatters of layer `l`. -/
def scatters (l : Fin 3) (xs : List (Fin 7 × Fin 2)) : List T := xs.map fun x => (Kind.scatter l, x.1, x.2)

/-- Later than phase `k`. -/
def Later (k : Kind) (l : List T) : Prop := ∀ t ∈ l, k.phase < t.1.phase

theorem Later.append {k : Kind} {l l' : List T} (h : Later k l) (h' : Later k l') : Later k (l ++ l') := fun t ht =>
  (List.mem_append.mp ht).elim (h t) (h' t)
theorem Later.mono {k k' : Kind} {l : List T} (h : Later k l) (hk : k'.phase ≤ k.phase) : Later k' l := fun t ht =>
  lt_of_le_of_lt hk (h t ht)
theorem later_gathersH {k : Kind} {g : Option (Fin 3)} (h : k.phase < (Kind.gather g).phase) (j : Fin 2) (l : List (Fin 7)) :
    Later k (gathersH g j l) := fun t ht => by
  obtain ⟨r, -, rfl⟩ := List.mem_map.mp ht; exact h
theorem later_gathers {k : Kind} {g : Option (Fin 3)} (h : k.phase < (Kind.gather g).phase) : Later k (gathers g) :=
  (later_gathersH h 0 _).append (later_gathersH h 1 _)
theorem later_scatters {k : Kind} {l : Fin 3} (h : k.phase < (Kind.scatter l).phase) (xs : List (Fin 7 × Fin 2)) :
    Later k (scatters l xs) := fun t ht => by
  obtain ⟨x, -, rfl⟩ := List.mem_map.mp ht; exact h
theorem later_nil (k : Kind) : Later k [] := fun _ h => absurd h List.not_mem_nil

theorem prev_lt : ∀ l : Fin 3, (Kind.gather (prevStage l)).phase < (Kind.scatter l).phase := by decide
theorem scatter_lt : ∀ l : Fin 3, (Kind.scatter l).phase < (Kind.gather (some l)).phase := by decide

/-! ## The kernel's loops -/

/-- Start the gathers of half `h`. -/
theorem wp_sendsH (c : Dev nD) (g : Option (Fin 3)) (h : Fin 2) (rest : List T) (Q : PUnit → sProp 𝕄) (xs : List (Fin 7)) :
    iprop((recs A K ∗ Owes c (owedL c (gathersH g h xs ++ rest)))
        ∗ bigSepL xs fun r => iprop(sndPay A c (.gather g, r, h) ∗ Sd c (.gather g, r, h)))
      ⊢ iprop(((recs A K ∗ Owes c (owedL c rest)) ∗ (bigSepL xs fun r => Cr (F := F) c (.gather g, r, h)) -∗ Q ⟨⟩)
        -∗ WP c (each xs fun r => send (.gather g) c r h) Q) :=
  each_loop c (fun r => send (.gather g) c r h) (fun l => iprop(recs A K ∗ Owes c (owedL c (gathersH g h l ++ rest))))
    (fun r => iprop(sndPay A c (.gather g, r, h) ∗ Sd c (.gather g, r, h))) (fun r => Cr c (.gather g, r, h))
    (fun r l Q => by
      iintro ⟨⟨#HR, HO⟩, Hs, Hd⟩ Hk
      iapply (wp_snd A K c (.gather g) r h (gathersH g h l ++ rest) Q) $$ [HO Hs Hd]
      · isplitr; · iexact HR
        isplitl [HO]; · iexact HO
        isplitl [Hs]; · iexact Hs
        iexact Hd
      iintro ⟨HO, Hc⟩
      iapply Hk
      isplitl [HO]
      · isplitr; · iexact HR
        iexact HO
      iexact Hc) xs Q

/-- Add up what the peers sent. -/
theorem wp_reduce (c : Dev nD) (l : Fin 3) (h : Fin 2) (ts : List T) (ht : Later (.scatter l) ts) :
    ∀ (rs : List (Fin 7)) (a : FVec F S128x256 .f32) (Q : FVec F S128x256 .f32 → sProp 𝕄),
    iprop(recs A K ∗ Owes c (owedL c ts) ∗ bigSepL rs fun r => Rv (F := F) c (.scatter l, r, h))
      ⊢ iprop((Owes c (owedL c ts) ∗ (bigSepL rs fun r => Got A c (.scatter l, r, h))
          -∗ Q (rs.foldl (fun a r => addf a (extf .f32 (addend A l (blk A (prevStage l)) c h r) bitsLt_bf16_f32)) a))
        -∗ WP c (reduce l c h rs a) Q)
  | [], a, Q => by
    unfold reduce
    rw [List.foldl_nil]
    iintro ⟨#HR, HO, H⟩ Hk
    iapply (wp_done (F := F) c)
    iapply Hk
    isplitl [HO]; · iexact HO
    iexact H
  | r :: rs, a, Q => by
    unfold reduce
    rw [wp_then, bigSepL_cons', bigSepL_cons', List.foldl_cons]
    iintro ⟨#HR, HO, Hr, Hl⟩ Hk
    iapply (wp_rcv A K c (.scatter l) r h ts ht _) $$ [HO Hr]
    · isplitr; · iexact HR
      isplitl [HO]; · iexact HO
      iexact Hr
    unfold Got
    iintro ⟨HO, Hp, Hz⟩
    rw [wp_then]
    unfold rcvPay dstV
    iapply (wp_loadSlot c l r h _ _) $$ Hp
    iintro %v %hv Hp
    have hv' : accum a v = addf a (extf .f32 (addend A l (blk A (prevStage l)) c h r) bitsLt_bf16_f32) := by
      unfold accum
      rw [hv]
      unfold val addend
      rw [peer_peer]
    rw [hv']
    iapply (wp_reduce c l h ts ht rs _ Q) $$ [HO Hl]
    · isplitr; · iexact HR
      isplitl [HO]; · iexact HO
      iexact Hl
    unfold Got rcvPay dstV
    iintro ⟨HO, Hl⟩
    iapply Hk
    isplitl [HO]; · iexact HO
    isplitl [Hp Hz]
    · isplitl [Hp]; · iexact Hp
      iexact Hz
    iexact Hl

/-- Multiply what the peers gathered, and send the products back. -/
theorem wp_pieces (c : Dev nD) (l : Fin 3) (ts : List T) (ht : Later (.gather (prevStage l)) ts) (Q : PUnit → sProp 𝕄)
    (xs : List (Fin 7 × Fin 2)) :
    iprop((recs A K ∗ Owes c (owedL c (scatters l xs ++ ts)))
        ∗ bigSepL xs fun x => iprop(Rv (F := F) c (.gather (prevStage l), x) ∗ Sd (F := F) c (.scatter l, x) ∗ (∃ X, own c (prodPiece l c x.1 x.2) fullShare X)))
      ⊢ iprop(((recs A K ∗ Owes c (owedL c ts)) ∗ (bigSepL xs fun x => iprop(Got A c (.gather (prevStage l), x) ∗ Cr (F := F) c (.scatter l, x))) -∗ Q ⟨⟩)
        -∗ WP c (each xs (pieceStep l (prevStage l) c (A.w1 l c) (A.w2 l c))) Q) :=
  each_loop c (pieceStep l (prevStage l) c (A.w1 l c) (A.w2 l c)) (fun xs => iprop(recs A K ∗ Owes c (owedL c (scatters l xs ++ ts))))
    (fun x => iprop(Rv (F := F) c (.gather (prevStage l), x) ∗ Sd (F := F) c (.scatter l, x) ∗ (∃ X, own c (prodPiece l c x.1 x.2) fullShare X)))
    (fun x => iprop(Got A c (.gather (prevStage l), x) ∗ Cr (F := F) c (.scatter l, x)))
    (fun x xs Q => by
      iintro ⟨⟨#HR, HO⟩, Hr, Hd, Hb⟩ Hk
      unfold pieceStep
      rw [wp_then]
      iapply (wp_rcv A K c (.gather (prevStage l)) x.1 x.2 (scatters l (x :: xs) ++ ts)
        (Later.append (later_scatters (prev_lt l) _) ht) _) $$ [HO Hr]
      · isplitr; · iexact HR
        isplitl [HO]; · iexact HO
        iexact Hr
      unfold Got
      iintro ⟨HO, Hp, Hz⟩
      rw [wp_then]
      unfold rcvPay dstV
      iapply (wp_loadPeer c (prevStage l) x.1 x.2 fullShare _ _) $$ Hp
      iintro Hp
      rw [wp_then]
      iapply (wp_storeProd c l x.1 x.2 _ _) $$ Hb
      iintro Hb
      iapply (wp_snd A K c (.scatter l) x.1 x.2 (scatters l xs ++ ts) Q) $$ [HO Hb Hd]
      · isplitr; · iexact HR
        isplitl [HO]; · iexact HO
        isplitl [Hb]; · unfold sndPay srcV; iexact Hb
        iexact Hd
      iintro ⟨HO, Hc⟩
      iapply Hk
      isplitl [HO]
      · isplitr; · iexact HR
        iexact HO
      isplitl [Hp Hz]
      · isplitl [Hp]; · iexact Hp
        iexact Hz
      iexact Hc) xs Q

/-- Wait until the transfers of one phase have been read out. -/
theorem wp_drains (c : Dev nD) (k : Kind) (Q : PUnit → sProp 𝕄) (xs : List (Fin 7 × Fin 2)) :
    iprop((recs A K ∗ Owes c 0) ∗ bigSepL xs fun x => Cr (F := F) c (k, x))
      ⊢ iprop(((recs A K ∗ Owes c 0) ∗ (bigSepL xs fun x => Dn A c (k, x)) -∗ Q ⟨⟩) -∗ WP c (drains k c xs) Q) := by
  have hstep : ∀ (x : Fin 7 × Fin 2) (rest : List (Fin 7 × Fin 2)) (Q : PUnit → sProp 𝕄),
      iprop((recs A K ∗ Owes c 0) ∗ Cr (F := F) c (k, x))
        ⊢ iprop(((recs A K ∗ Owes c 0) ∗ Dn A c (k, x) -∗ Q ⟨⟩) -∗ WP c (waitSend k c x.1 x.2) Q) := fun x xs Q => by
    iintro ⟨⟨#HR, HO⟩, Hr⟩ Hk
    iapply (wp_drain A K c k x.1 x.2 Q) $$ [HO Hr]
    · isplitr; · iexact HR
      isplitl [HO]; · iexact HO
      iexact Hr
    iintro ⟨HO, Hc⟩
    iapply Hk
    isplitl [HO]
    · isplitr; · iexact HR
      iexact HO
    iexact Hc
  have h := each_loop (F := F) c (fun x : Fin 7 × Fin 2 => waitSend k c x.1 x.2) (fun _ => iprop(recs A K ∗ Owes c 0)) (fun x => Cr (F := F) c (k, x))
    (fun x => Dn A c (k, x)) hstep xs Q
  exact h

/-- Signal the peers. -/
theorem wp_signals (c : Dev nD) (ts : List T) (Q : PUnit → sProp 𝕄) (xs : List (Fin 7)) :
    iprop((recs A K ∗ Owes c (owedSig c ts xs)) ∗ bigSepL xs fun r => iprop(dutyTok ER (barCell (peer c r)) 0 r ∗ barPay (F := F) (peer c r) r))
      ⊢ iprop(((recs A K ∗ Owes c (owedL c ts)) ∗ (bigSepL xs fun _ => iprop(emp)) -∗ Q ⟨⟩) -∗ WP c (each xs (signal c)) Q) :=
  each_loop c (signal c) (fun l => iprop(recs A K ∗ Owes c (owedSig c ts l)))
    (fun r => iprop(dutyTok ER (barCell (peer c r)) 0 r ∗ barPay (F := F) (peer c r) r)) (fun _ => iprop(emp))
    (fun r l Q => by
      iintro ⟨⟨#HR, HO⟩, Ht, Hb⟩ Hk
      iapply (wp_sig A K c ts r l Q) $$ [HO Ht Hb]
      · isplitr; · iexact HR
        isplitl [HO]; · iexact HO
        isplitl [Ht]; · iexact Ht
        iexact Hb
      iintro HO
      iapply Hk
      isplitl [HO]
      · isplitr; · iexact HR
        iexact HO
      iempintro) xs Q

end Cert.KernelIdeal.Mlp

end
-- ==== Proof.Layer.lean ====
module

public import proofs.«01_k».proof.Proof.Loops

/-! # One layer

What a layer needs, what it leaves, and that it computes this device's rows of the layer's result. -/

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok)

variable {F : FTy → Type} [FloatOps F]

local notation "𝕄" => MT nD τ sig Unit (Elt F) ℕ UU ℕ

variable (A : Inputs F) (K : Dev nD × Cell → ℕ)

/-- One half of a layer's result: added up, stored, and its gather started. -/
theorem wp_finishHalf (c : Dev nD) (l : Fin 3) (h : Fin 2) (ts : List T) (ht : Later (.scatter l) ts)
    (Q : FVec F S128x256 .f32 → sProp 𝕄) :
    iprop(recs A K ∗ Owes c (owedL c (gathersH (some l) h issue ++ ts))
        ∗ (bigSepL arrival fun r => Rv (F := F) c (.scatter l, r, h))
        ∗ (∃ X, own c (gatOwn (some l) c h) fullShare X)
        ∗ (bigSepL issue fun r => Sd (F := F) c (.gather (some l), r, h)))
      ⊢ iprop((Owes c (owedL c ts) ∗ (bigSepL arrival fun r => Got A c (.scatter l, r, h))
          ∗ own c (gatOwn (some l) c h) kept (rowsOf h (blk A (some l) c))
          ∗ (bigSepL issue fun r => Cr (F := F) c (.gather (some l), r, h)) -∗ Q (red A l c h))
        -∗ WP c (finishHalf l c (ownAcc (blk A (prevStage l) c) (A.w1 l c) (A.w2 l c)) h) Q) := by
  have hr : rowsOf h (blk A (some l) c) = truncf .bf16 (arrival.foldl
      (fun a r => addf a (extf .f32 (addend A l (blk A (prevStage l)) c h r) bitsLt_bf16_f32))
      (halfOf h (ownAcc (blk A (prevStage l) c) (A.w1 l c) (A.w2 l c)))) bitsLt_bf16_f32 := rowsOf_blk_some A l c h
  have hq : red A l c h = arrival.foldl
      (fun a r => addf a (extf .f32 (addend A l (blk A (prevStage l)) c h r) bitsLt_bf16_f32))
      (halfOf h (ownAcc (blk A (prevStage l) c) (A.w1 l c) (A.w2 l c))) := rfl
  unfold finishHalf
  rw [wp_then, hq]
  iintro ⟨#HR, HO, Hr, Hx, Hd⟩ Hk
  iapply (wp_reduce A K c l h (gathersH (some l) h issue ++ ts) (Later.append (later_gathersH (scatter_lt l) h _) ht)
    arrival (halfOf h (ownAcc (blk A (prevStage l) c) (A.w1 l c) (A.w2 l c))) _) $$ [HO Hr]
  · isplitr; · iexact HR
    isplitl [HO]; · iexact HO
    iexact Hr
  iintro ⟨HO, Hg⟩
  rw [wp_then]
  iapply (wp_storeOwn c l h _ _) $$ Hx
  iintro Hx
  rw [wp_then]
  ihave Hx := (Entails.of_eq (congrArg (fun X => (own c (gatOwn (some l) c h) fullShare X : sProp 𝕄)) hr.symm)) $$ Hx
  ihave Hx := (Entails.of_eq (own_toks c (some l) h (rowsOf h (blk A (some l) c)))) $$ Hx
  icases Hx with ⟨Hkept, Ht⟩
  iapply (wp_sendsH A K c (some l) h ts _ issue) $$ [HO Ht Hd]
  · isplitl [HO]
    · isplitr; · iexact HR
      iexact HO
    rw [bigSepL_sep_eq]
    isplitl [Ht]; · iexact Ht
    iexact Hd
  iintro ⟨⟨-, HO⟩, Hc⟩
  iapply (wp_done (F := F) c)
  iapply Hk
  isplitl [HO]; · iexact HO
  isplitl [Hg]; · iexact Hg
  isplitl [Hkept]; · iexact Hkept
  iexact Hc

/-- Where a layer's own input is held. -/
def InRes (W : Wins) (c : Dev nD) (l : Fin 3) : sProp 𝕄 :=
  match l with
  | 0 => own c W.x fullShare (A.x c)
  | 1 => ownBlock c (some 0) kept (blk A (some 0) c)
  | 2 => ownBlock c (some 1) kept (blk A (some 1) c)

theorem wp_ownIn (W : Wins) (c : Dev nD) (l : Fin 3) (Q : FVec F S256x256 .bf16 → sProp 𝕄) :
    InRes A W c l ⊢ iprop((InRes A W c l -∗ Q (blk A (prevStage l) c)) -∗ WP c (ownIn W l c) Q) := by
  match l with
  | 0 =>
    have e : blk A (prevStage 0) c = A.x c := rfl
    unfold InRes ownIn
    rw [e]
    rw [wp_then]
    iintro H Hk
    iapply (wp_loadWhole c W.x ![0, 0] (by funext a; fin_cases a <;> rfl) inb_S256x256_S256x256_0_0 fullShare (A.x c) _) $$ H
    iintro H
    rw [shapeCast_self]
    iapply (wp_done (F := F) c)
    iapply Hk
    iexact H
  | 1 => exact wp_loadOwn c (some 0) kept (blk A (some 0) c) Q
  | 2 => exact wp_loadOwn c (some 1) kept (blk A (some 1) c) Q

/-- What layer `l` uses up, -/
def LayIn (c : Dev nD) (l : Fin 3) : sProp 𝕄 :=
  iprop(both (fun x => Rv (F := F) c (.gather (prevStage l), x))
    ∗ both (fun x => Sd (F := F) c (.scatter l, x))
    ∗ both (fun x => iprop(∃ X, own c (prodPiece l c x.1 x.2) fullShare X))
    ∗ both (fun x => Rv (F := F) c (.scatter l, x))
    ∗ (∃ X, own c (gatOwn (some l) c 0) fullShare X) ∗ (∃ X, own c (gatOwn (some l) c 1) fullShare X)
    ∗ both (fun x => Sd (F := F) c (.gather (some l), x)))

/-- what it leaves, -/
def LayOut (c : Dev nD) (l : Fin 3) : sProp 𝕄 :=
  iprop(both (fun x => Got A c (.gather (prevStage l), x))
    ∗ both (fun x => Cr (F := F) c (.scatter l, x))
    ∗ both (fun x => Got A c (.scatter l, x))
    ∗ ownBlock c (some l) kept (blk A (some l) c)
    ∗ both (fun x => Cr (F := F) c (.gather (some l), x)))

/-- and the windows it reads. -/
def LayWin (W : Wins) (c : Dev nD) (l : Fin 3) : sProp 𝕄 :=
  iprop(own c (W.win l) fullShare (A.w1 l c) ∗ own c (W.wout l) fullShare (A.w2 l c))

/-- The transfers a layer starts. -/
def layPend (l : Fin 3) : List T := scatters l arrHalves ++ (gathersH (some l) 0 issue ++ gathersH (some l) 1 issue)

theorem wp_layer (W : Wins) (c : Dev nD) (l : Fin 3) (ts : List T) (ht : Later (.gather (some l)) ts)
    (Q : FVec F S128x256 .f32 × FVec F S128x256 .f32 → sProp 𝕄) :
    iprop(recs A K ∗ Owes c (owedL c (layPend l ++ ts)) ∗ InRes A W c l ∗ LayWin A W c l ∗ LayIn (F := F) c l)
      ⊢ iprop((Owes c (owedL c ts) ∗ InRes A W c l ∗ LayWin A W c l ∗ LayOut A c l -∗ Q (red A l c 0, red A l c 1))
        -∗ WP c (layer W c l) Q) := by
  have hs : Later (.scatter l) ts := ht.mono (le_of_lt (scatter_lt l))
  have hg1 : Later (.scatter l) (gathersH (some l) 1 issue ++ ts) := Later.append (later_gathersH (scatter_lt l) 1 _) hs
  have hp : Later (.gather (prevStage l)) (gathersH (some l) 0 issue ++ (gathersH (some l) 1 issue ++ ts)) :=
    Later.mono (Later.append (later_gathersH (scatter_lt l) 0 _) hg1) (le_of_lt (prev_lt l))
  have ha : layPend l ++ ts = scatters l arrHalves ++ (gathersH (some l) 0 issue ++ (gathersH (some l) 1 issue ++ ts)) := by
    unfold layPend
    rw [List.append_assoc, List.append_assoc]
  unfold layer LayWin LayIn
  rw [wp_then, ha]
  iintro ⟨#HR, HO, HI, ⟨Hw1, Hw2⟩, Hrg, Hsd, Hpp, Hrs, Hx0, Hx1, Hsg⟩ Hk
  iapply (wp_ownIn A W c l _) $$ HI
  iintro HI
  rw [wp_then]
  unfold loadWin
  iapply (wp_loadWhole c (W.win l) ![0, 0] (by funext a; fin_cases a <;> rfl) inb_S256x512_S256x512_0_0 fullShare (A.w1 l c) _) $$ Hw1
  iintro Hw1
  rw [wp_then]
  unfold loadWout
  iapply (wp_loadWhole c (W.wout l) ![0, 0] (by funext a; fin_cases a <;> rfl) inb_S512x256_S512x256_0_0 fullShare (A.w2 l c) _) $$ Hw2
  iintro Hw2
  rw [shapeCast_self, shapeCast_self, wp_then]
  iapply (wp_pieces A K c l _ hp _ arrHalves) $$ [HO Hrg Hsd Hpp]
  · isplitl [HO]
    · isplitr; · iexact HR
      iexact HO
    rw [bigSepL_sep_eq, bigSepL_sep_eq, ← both_arr, ← both_arr, ← both_arr]
    isplitl [Hrg]; · iexact Hrg
    isplitl [Hsd]; · iexact Hsd
    iexact Hpp
  rw [bigSepL_sep_eq, ← both_arr, ← both_arr]
  iintro ⟨⟨-, HO⟩, Hgg, Hcs⟩
  ihave Hrs := (Entails.of_eq (both_arr_two (fun x => Rv (F := F) c (.scatter l, x)))) $$ Hrs
  icases Hrs with ⟨Hrs0, Hrs1⟩
  ihave Hsg := (Entails.of_eq (both_issue_two (fun x => Sd (F := F) c (.gather (some l), x)))) $$ Hsg
  icases Hsg with ⟨Hsg0, Hsg1⟩
  rw [wp_then]
  iapply (wp_finishHalf A K c l 0 _ hg1 _) $$ [HO Hrs0 Hx0 Hsg0]
  · isplitr; · iexact HR
    isplitl [HO]; · iexact HO
    isplitl [Hrs0]; · iexact Hrs0
    isplitl [Hx0]; · iexact Hx0
    iexact Hsg0
  iintro ⟨HO, Hgs0, Hk0, Hcg0⟩
  rw [wp_then]
  iapply (wp_finishHalf A K c l 1 _ hs _) $$ [HO Hrs1 Hx1 Hsg1]
  · isplitr; · iexact HR
    isplitl [HO]; · iexact HO
    isplitl [Hrs1]; · iexact Hrs1
    isplitl [Hx1]; · iexact Hx1
    iexact Hsg1
  iintro ⟨HO, Hgs1, Hk1, Hcg1⟩
  iapply (wp_done (F := F) c)
  iapply Hk
  unfold LayOut
  rw [both_arr_two (fun x => Got A c (.scatter l, x)), both_issue_two (fun x => Cr (F := F) c (.gather (some l), x))]
  isplitl [HO]; · iexact HO
  isplitl [HI]; · iexact HI
  isplitl [Hw1 Hw2]
  · isplitl [Hw1]; · iexact Hw1
    iexact Hw2
  isplitl [Hgg]; · iexact Hgg
  isplitl [Hcs]; · iexact Hcs
  isplitl [Hgs0 Hgs1]
  · isplitl [Hgs0]; · iexact Hgs0
    iexact Hgs1
  isplitl [Hk0 Hk1]
  · iapply (block_halves c (some l) kept (blk A (some l) c)).2
    isplitl [Hk0]; · iexact Hk0
    iexact Hk1
  isplitl [Hcg0]; · iexact Hcg0
  iexact Hcg1

end Cert.KernelIdeal.Mlp

end
-- ==== Proof.Out.lean ====
module

public import proofs.«01_k».proof.Proof.Layer

/-! # The first gather and the result

The barrier and the start of the first gather; and the stores of the result, 128 rows at a time. -/

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok)

variable {F : FTy → Type} [FloatOps F]

local notation "𝕄" => MT nD τ sig Unit (Elt F) ℕ UU ℕ

variable (A : Inputs F) (K : Dev nD × Cell → ℕ)

/-! ## The barrier and the first gather -/

/-- The gathers of stage `g` for the pieces `xs`. -/
def gathersX (g : Option (Fin 3)) (xs : List (Fin 7 × Fin 2)) : List T := xs.map fun x => (Kind.gather g, x.1, x.2)

theorem wp_sendsX (c : Dev nD) (g : Option (Fin 3)) (rest : List T) (Q : PUnit → sProp 𝕄) (xs : List (Fin 7 × Fin 2)) :
    iprop((recs A K ∗ Owes c (owedL c (gathersX g xs ++ rest)))
        ∗ bigSepL xs fun x => iprop(sndPay A c (.gather g, x) ∗ Sd c (.gather g, x)))
      ⊢ iprop(((recs A K ∗ Owes c (owedL c rest)) ∗ (bigSepL xs fun x => Cr (F := F) c (.gather g, x)) -∗ Q ⟨⟩)
        -∗ WP c (each xs fun x => send (.gather g) c x.1 x.2) Q) :=
  each_loop c (fun x : Fin 7 × Fin 2 => send (.gather g) c x.1 x.2) (fun l => iprop(recs A K ∗ Owes c (owedL c (gathersX g l ++ rest))))
    (fun x => iprop(sndPay A c (.gather g, x) ∗ Sd c (.gather g, x))) (fun x => Cr c (.gather g, x))
    (fun x l Q => by
      iintro ⟨⟨#HR, HO⟩, Hs, Hd⟩ Hk
      iapply (wp_snd A K c (.gather g) x.1 x.2 (gathersX g l ++ rest) Q) $$ [HO Hs Hd]
      · isplitr; · iexact HR
        isplitl [HO]; · iexact HO
        isplitl [Hs]; · iexact Hs
        iexact Hd
      iintro ⟨HO, Hc⟩
      iapply Hk
      isplitl [HO]
      · isplitr; · iexact HR
        iexact HO
      iexact Hc) xs Q

/-- Pieces by peer, or by phase. -/
theorem by_phase (Φ : T → sProp 𝕄) :
    (bigSep Finset.univ fun r : Fin 7 => bigSep Finset.univ fun x : Kind × Fin 2 => Φ (x.1, r, x.2))
      = bigSepL kindList fun k => both fun x => Φ (k, x) := by
  rw [← bigSep_univ_eq_bigSepL kindList kind_univ kind_nodup (fun k => both fun x => Φ (k, x))]
  unfold both
  rw [← bigSep_univ_prod (fun t : Kind × (Fin 7 × Fin 2) => Φ t),
    ← bigSep_univ_prod (fun y : Fin 7 × (Kind × Fin 2) => Φ (y.2.1, y.1, y.2.2))]
  exact (bigSep_univ_equiv (⟨fun y => (y.2.1, y.1, y.2.2), fun t => (t.2.1, t.1, t.2.2), fun _ => rfl, fun _ => rfl⟩ :
    Fin 7 × (Kind × Fin 2) ≃ Kind × (Fin 7 × Fin 2)) Φ).symm

/-- The phases after the first. -/
def laterKinds : List Kind := [.scatter 0, .gather (some 0), .scatter 1, .gather (some 1), .scatter 2, .gather (some 2)]

/-- What the peers give at the barrier, by phase. -/
theorem bar_lands (c : Dev nD) :
    (bigSep Finset.univ fun r => barPay (F := F) c r)
      = iprop(both (fun x => Ld (F := F) c (.gather none, x)) ∗ bigSepL laterKinds fun k => both fun x => Ld (F := F) c (k, x)) := by
  rw [← bigSepL_cons' (Kind.gather none) laterKinds (fun k => both fun x => Ld (F := F) c (k, x))]
  exact by_phase (fun t => Ld (F := F) c t)

/-- What the barrier and the first gather use. -/
def EntryIn (c : Dev nD) : sProp 𝕄 :=
  iprop((bigSepL issue fun r => iprop(dutyTok ER (barCell (peer c r)) 0 r ∗ barPay (F := F) (peer c r) r))
    ∗ (atPos ER (barCell c) 0 ∅ 0 ∗ cred (tallyAt (barCell c) () 7))
    ∗ (∃ B, ownBlock c none fullShare B)
    ∗ both (fun x => Tk (F := F) c (.gather none, x)))

theorem wp_entry (W : Wins) (c : Dev nD) (ts : List T) (Q : PUnit → sProp 𝕄) :
    iprop(recs A K ∗ Owes c (owedSig c (gathersX none halfIssue ++ ts) issue) ∗ own c W.x fullShare (A.x c) ∗ EntryIn (F := F) c)
      ⊢ iprop((Owes c (owedL c ts) ∗ own c W.x fullShare (A.x c) ∗ semVal (barCell c) 0 ∗ ownBlock c none kept (A.x c)
          ∗ both (fun x => Cr (F := F) c (.gather none, x))
          ∗ (bigSepL laterKinds fun k => both fun x => Ld (F := F) c (k, x)) -∗ Q ⟨⟩)
        -∗ WP c (entry W c) Q) := by
  unfold entry EntryIn
  rw [wp_then]
  iintro ⟨#HR, HO, Hx, Hs, ⟨Hat, Hc⟩, ⟨%B, Hb⟩, Ht⟩ Hk
  iapply (wp_signals A K c (gathersX none halfIssue ++ ts) _ issue) $$ [HO Hs]
  · isplitl [HO]
    · isplitr; · iexact HR
      iexact HO
    iexact Hs
  iintro ⟨⟨-, HO⟩, -⟩
  rw [wp_then]
  iapply (wp_barrier A K c (gathersX none halfIssue ++ ts) _) $$ [HO Hat Hc]
  · isplitr; · iexact HR
    isplitl [HO]; · iexact HO
    isplitl [Hat]; · iexact Hat
    iexact Hc
  rw [bar_lands]
  iintro ⟨HO, Hz, Hl0, Hl⟩
  rw [wp_then]
  iapply (wp_loadWhole c W.x ![0, 0] (by funext a; fin_cases a <;> rfl) inb_S256x256_S256x256_0_0 fullShare (A.x c) _) $$ Hx
  iintro Hx
  rw [wp_then]
  iapply (wp_loadOwn c none fullShare B _) $$ Hb
  iintro Hb
  rw [wp_then, shapeCast_self, shapeCast_self]
  iapply (wp_storeBlock c (A.x c) B _) $$ Hb
  iintro Hb
  ihave Hb := (block_halves c none fullShare (A.x c)).1 $$ Hb
  rw [own_toks c none 0 (rowsOf 0 (A.x c)), own_toks c none 1 (rowsOf 1 (A.x c))]
  icases Hb with ⟨⟨Hk0, Ht0⟩, ⟨Hk1, Ht1⟩⟩
  iapply (wp_sendsX A K c none ts _ halfIssue) $$ [HO Hl0 Ht Ht0 Ht1]
  · isplitl [HO]
    · isplitr; · iexact HR
      iexact HO
    unfold Sd
    rw [bigSepL_sep_eq, bigSepL_sep_eq, ← both_issue, ← both_issue, ← both_issue, both_issue_two (fun x => sndPay A c (.gather none, x))]
    isplitl [Ht0 Ht1]
    · isplitl [Ht0]; · iexact Ht0
      iexact Ht1
    isplitl [Ht]; · iexact Ht
    iexact Hl0
  rw [← both_issue]
  iintro ⟨⟨-, HO⟩, Hcr⟩
  iapply Hk
  isplitl [HO]; · iexact HO
  isplitl [Hx]; · iexact Hx
  isplitl [Hz]; · iexact Hz
  isplitl [Hk0 Hk1]
  · iapply (block_halves c none kept (A.x c)).2
    isplitl [Hk0]; · iexact Hk0
    iexact Hk1
  isplitl [Hcr]; · iexact Hcr
  iexact Hl

/-! ## The result -/

/-- The rows of half `h` of device `p`'s block are the result's. -/
def Good (c : Dev nD) (Y : FVec F S2048x256 .f32) (p : Dev nD) (h : Fin 2) : Prop :=
  ∀ i, Y ((ownR2 p h).emb i) = outRows A c p h i

theorem ownR2_apart {p p' : Dev nD} {h h' : Fin 2} {i i' : S128x256.Idx} (e : (ownR2 p h).emb i = (ownR2 p' h').emb i') :
    p = p' ∧ h = h' := by
  have e0 : ownRow p h + 1 * (i 0).val = ownRow p' h' + 1 * (i' 0).val := congrArg (fun j : S2048x256.Idx => (j 0).val) e
  rw [ownRow_eq, ownRow_eq] at e0
  have h0 : (i 0).val < 128 := (i 0).isLt
  have h1 : (i' 0).val < 128 := (i' 0).isLt
  have := h.isLt
  have := h'.isLt
  exact ⟨Fin.ext (by omega), Fin.ext (by omega)⟩

/-- A store of one half's rows makes that half good and leaves the others. -/
theorem wp_outRows (W : Wins) (c p : Dev nD) (h : Fin 2) (o : ℕ) (ho : ∀ a, (![o, 0] : Fin 2 → ℕ) a + S128x256.size a ≤ S2048x256.size a)
    (e : o = ownRow p h) (D : Dev nD → Fin 2 → Prop) (Q : PUnit → sProp 𝕄) :
    iprop(∃ Y, ⌜∀ p h, D p h → Good A c Y p h⌝ ∗ own c W.out fullShare Y)
      ⊢ iprop(((∃ Y, ⌜∀ p' h', (D p' h' ∨ (p' = p ∧ h' = h)) → Good A c Y p' h'⌝ ∗ own c W.out fullShare Y) -∗ Q ⟨⟩)
        -∗ WP c (storeOut W o ho (outRows A c p h)) Q) := by
  subst e
  iintro ⟨%Y, %hY, H⟩ Hk
  iapply (wp_storeOut c W (ownRow p h) ho (outRows A c p h) Y Q) $$ H
  iintro %Y' %hY' H
  iapply Hk
  iexists Y'
  isplitr
  · ipureintro
    intro p' h' hd
    by_cases hp : p' = p ∧ h' = h
    · obtain ⟨rfl, rfl⟩ := hp
      exact fun i => hY'.1 i
    · have hd' : D p' h' := hd.resolve_right hp
      intro i
      rw [hY'.2 _ (fun x hx => hp (by obtain ⟨a, b⟩ := ownR2_apart hx; exact ⟨a.symm, b.symm⟩))]
      exact hY p' h' hd' i
  iexact H

/-- The state of the result while the pieces `xs` of the peers' rows are still to come. -/
def OutSt (W : Wins) (c : Dev nD) (xs : List (Fin 7 × Fin 2)) : sProp 𝕄 :=
  iprop(∃ Y, ⌜∀ p h, (p = c ∨ ∃ r, p = peer c r ∧ (r, h) ∉ xs) → Good A c Y p h⌝ ∗ own c W.out fullShare Y)

theorem good_all (c : Dev nD) (Y : FVec F S2048x256 .f32) (h : ∀ p h, Good A c Y p h) : Y = outFinal A c := by
  funext i
  have h0 : (i 0).val < 2048 := (i 0).isLt
  unfold outFinal
  rw [← h]
  congr 1
  refine funext fun a => Fin.ext ?_
  match a with
  | 0 =>
    show (i 0).val = ownRow _ _ + 1 * ((i 0).val % 128)
    rw [ownRow_eq]
    show (i 0).val = 256 * ((i 0).val / 256) + 128 * ((i 0).val / 128 % 2) + 1 * ((i 0).val % 128)
    omega
  | 1 =>
    show (i 1).val = 0 + 1 * (i 1).val
    omega

theorem wp_out (W : Wins) (c : Dev nD) (Q : PUnit → sProp 𝕄) (xs : List (Fin 7 × Fin 2)) :
    iprop((recs A K ∗ Owes c (owedL c []) ∗ OutSt A W c xs) ∗ bigSepL xs fun x => Rv (F := F) c (.gather (some 2), x))
      ⊢ iprop(((recs A K ∗ Owes c (owedL c []) ∗ OutSt A W c []) ∗ (bigSepL xs fun x => Got A c (.gather (some 2), x)) -∗ Q ⟨⟩)
        -∗ WP c (each xs (outStep W c)) Q) :=
  each_loop c (outStep W c) (fun l => iprop(recs A K ∗ Owes c (owedL c []) ∗ OutSt A W c l))
    (fun x => Rv (F := F) c (.gather (some 2), x)) (fun x => Got A c (.gather (some 2), x))
    (fun x l Q => by
      iintro ⟨⟨#HR, HO, HY⟩, Hr⟩ Hk
      unfold outStep
      rw [wp_then]
      iapply (wp_rcv A K c (.gather (some 2)) x.1 x.2 [] (later_nil _) _) $$ [HO Hr]
      · isplitr; · iexact HR
        isplitl [HO]; · iexact HO
        iexact Hr
      unfold Got
      iintro ⟨HO, Hp, Hz⟩
      rw [wp_then]
      unfold rcvPay dstV
      iapply (wp_loadPeer c (some 2) x.1 x.2 fullShare _ _) $$ Hp
      iintro Hp
      have ev : extf .f32 (val A (.gather (some 2)) (peer c x.1) x.1 x.2) bitsLt_bf16_f32 = outRows A c (peer c x.1) x.2 := by
        unfold outRows
        rw [if_neg (peer_ne c x.1)]
        rfl
      rw [ev]
      unfold OutSt
      iapply (wp_outRows A W c (peer c x.1) x.2 _ (peerRow_inb2 c x.1 x.2) (peerRow_eq c x.1 x.2)
        (fun p h => p = c ∨ ∃ r, p = peer c r ∧ (r, h) ∉ x :: l) Q) $$ HY
      iintro ⟨%Y, %hY, HY⟩
      iapply Hk
      isplitr [Hp Hz]
      · isplitr; · iexact HR
        isplitl [HO]; · iexact HO
        iexists Y
        isplitr
        · ipureintro
          intro p h hp
          refine hY p h ?_
          rcases hp with rfl | ⟨r, rfl, hr⟩
          · exact .inl (.inl rfl)
          · by_cases hx : (r, h) = x
            · subst hx; exact .inr ⟨rfl, rfl⟩
            · exact .inl (.inr ⟨r, rfl, fun hm => (List.mem_cons.mp hm).elim hx hr⟩)
        iexact HY
      isplitl [Hp]; · iexact Hp
      iexact Hz) xs Q

end Cert.KernelIdeal.Mlp

end
-- ==== Proof.Whole.lean ====
module

public import proofs.«01_k».proof.Proof.Out

/-! # The whole kernel on one device

What a device starts with, what it ends with, and that its program leads from the one to the other. -/

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok)

variable {F : FTy → Type} [FloatOps F]

local notation "𝕄" => MT nD τ sig Unit (Elt F) ℕ UU ℕ

variable (A : Inputs F) (K : Dev nD × Cell → ℕ)

/-- A layer's own resources, without the places on the peers. -/
def LayTk (c : Dev nD) (l : Fin 3) : sProp 𝕄 :=
  iprop(both (fun x => Rv (F := F) c (.gather (prevStage l), x))
    ∗ both (fun x => Tk (F := F) c (.scatter l, x))
    ∗ both (fun x => iprop(∃ X, own c (prodPiece l c x.1 x.2) fullShare X))
    ∗ both (fun x => Rv (F := F) c (.scatter l, x))
    ∗ (∃ X, own c (gatOwn (some l) c 0) fullShare X) ∗ (∃ X, own c (gatOwn (some l) c 1) fullShare X)
    ∗ both (fun x => Tk (F := F) c (.gather (some l), x)))

theorem both_sd (c : Dev nD) (k : Kind) :
    iprop(both (fun x => Tk (F := F) c (k, x)) ∗ both (fun x => Ld (F := F) c (k, x))) = both fun x => Sd (F := F) c (k, x) := by
  rw [both_arr, both_arr, both_arr]
  exact (bigSepL_sep_eq arrHalves _ _).symm

theorem lay_in (c : Dev nD) (l : Fin 3) :
    iprop(LayTk (F := F) c l ∗ both (fun x => Ld (F := F) c (.scatter l, x)) ∗ both (fun x => Ld (F := F) c (.gather (some l), x)))
      ⊢ LayIn (F := F) c l := by
  unfold LayTk LayIn
  rw [← both_sd, ← both_sd]
  iintro ⟨⟨H1, H2, H3, H4, H5, H6, H7⟩, L1, L2⟩
  isplitl [H1]; · iexact H1
  isplitl [H2 L1]
  · isplitl [H2]; · iexact H2
    iexact L1
  isplitl [H3]; · iexact H3
  isplitl [H4]; · iexact H4
  isplitl [H5]; · iexact H5
  isplitl [H6]; · iexact H6
  isplitl [H7]; · iexact H7
  iexact L2

/-- All transfers a device starts, in order. -/
def allSends : List T := gathersX none halfIssue ++ (layPend 0 ++ (layPend 1 ++ (layPend 2 ++ [])))

/-- The windows: the inputs, and the result at `Y`. -/
def WinRes (W : Wins) (c : Dev nD) (Y : FVec F S2048x256 .f32) : sProp 𝕄 :=
  iprop(own c W.x fullShare (A.x c) ∗ LayWin A W c 0 ∗ LayWin A W c 1 ∗ LayWin A W c 2 ∗ own c W.out fullShare Y)

/-- What a device starts with. -/
def BodyIn (c : Dev nD) : sProp 𝕄 :=
  iprop(EntryIn (F := F) c ∗ LayTk (F := F) c 0 ∗ LayTk (F := F) c 1 ∗ LayTk (F := F) c 2
    ∗ both (fun x => Rv (F := F) c (.gather (some 2), x)))

/-- What it ends with. -/
def BodyOut (c : Dev nD) : sProp 𝕄 :=
  iprop(semVal (barCell c) 0
    ∗ (both (fun x => Got A c (.gather none, x)) ∗ both (fun x => Got A c (.scatter 0, x)) ∗ both (fun x => Got A c (.gather (some 0), x))
      ∗ both (fun x => Got A c (.scatter 1, x)) ∗ both (fun x => Got A c (.gather (some 1), x)) ∗ both (fun x => Got A c (.scatter 2, x))
      ∗ both (fun x => Got A c (.gather (some 2), x)))
    ∗ (both (fun x => Dn A c (.gather none, x)) ∗ both (fun x => Dn A c (.scatter 0, x)) ∗ both (fun x => Dn A c (.gather (some 0), x))
      ∗ both (fun x => Dn A c (.scatter 1, x)) ∗ both (fun x => Dn A c (.gather (some 1), x)) ∗ both (fun x => Dn A c (.scatter 2, x))
      ∗ both (fun x => Dn A c (.gather (some 2), x)))
    ∗ (ownBlock c none kept (blk A none c) ∗ ownBlock c (some 0) kept (blk A (some 0) c)
      ∗ ownBlock c (some 1) kept (blk A (some 1) c) ∗ ownBlock c (some 2) kept (blk A (some 2) c)))

theorem wp_drainB (c : Dev nD) (k : Kind) (xs : List (Fin 7 × Fin 2)) (hx : ∀ Φ : Fin 7 × Fin 2 → sProp 𝕄, both Φ = bigSepL xs Φ)
    (Q : PUnit → sProp 𝕄) :
    iprop(recs A K ∗ Owes c 0 ∗ both (fun x => Cr (F := F) c (k, x)))
      ⊢ iprop((Owes c 0 ∗ both (fun x => Dn A c (k, x)) -∗ Q ⟨⟩) -∗ WP c (drains k c xs) Q) := by
  rw [hx, hx]
  iintro ⟨#HR, HO, Hc⟩ Hk
  iapply (wp_drains A K c k Q xs) $$ [HO Hc]
  · isplitl [HO]
    · isplitr; · iexact HR
      iexact HO
    iexact Hc
  iintro ⟨⟨-, HO⟩, Hd⟩
  iapply Hk
  isplitl [HO]; · iexact HO
  iexact Hd

theorem in0 (W : Wins) (c : Dev nD) : InRes A W c 0 = own c W.x fullShare (A.x c) := rfl
theorem in1 (W : Wins) (c : Dev nD) : InRes A W c 1 = ownBlock c (some 0) kept (blk A (some 0) c) := rfl
theorem in2 (W : Wins) (c : Dev nD) : InRes A W c 2 = ownBlock c (some 1) kept (blk A (some 1) c) := rfl
theorem one_kind (Φ : Kind → sProp 𝕄) (k : Kind) : bigSepL [k] Φ = Φ k := rfl

theorem later_layPend {k : Kind} {l : Fin 3} (h : k.phase < (Kind.scatter l).phase) : Later k (layPend l) := by
  unfold layPend
  exact (later_scatters h _).append ((later_gathersH (h.trans (scatter_lt l)) 0 _).append (later_gathersH (h.trans (scatter_lt l)) 1 _))
theorem later1 : Later (.gather (some 1)) (layPend 2 ++ []) := (later_layPend (by decide)).append (later_nil _)
theorem later0 : Later (.gather (some 0)) (layPend 1 ++ (layPend 2 ++ [])) :=
  (later_layPend (by decide)).append ((later_layPend (by decide)).append (later_nil _))

/-- A program that asks for the device's own number. -/
theorem wp_dev (c : Dev nD) {α : Type} (k : Dev nD → P F α) (Q : α → sProp 𝕄) :
    WP c ((Prog.lift .deviceId : P F (Dev nD)).bind k) Q = WP c (k c) Q := by
  rw [wp_then]
  show wp frame (wpE (defs₀ (F := F)) 𝒱₀ (c : Thread nD τ) none) Set.univ (.op .deviceId .ret) _ = _
  rw [wp_deviceId]
  exact (wp_then c (.ret c) k Q).symm

theorem wp_body (W : Wins) (c : Dev nD) (Q : PUnit → sProp 𝕄) :
    iprop(recs A K ∗ Owes c (owedSig c allSends issue) ∗ (∃ Y, WinRes A W c Y) ∗ BodyIn (F := F) c)
      ⊢ iprop((Owes c 0 ∗ WinRes A W c (outFinal A c) ∗ BodyOut A c -∗ Q ⟨⟩) -∗ WP c (body W) Q) := by
  unfold body allSends BodyIn WinRes
  rw [wp_dev, wp_then]
  iintro ⟨#HR, HO, ⟨%Y, Hx, Hw0, Hw1, Hw2, HY⟩, HE, HL0, HL1, HL2, Hrv⟩ Hk
  iapply (wp_entry A K W c (layPend 0 ++ (layPend 1 ++ (layPend 2 ++ []))) _) $$ [HO Hx HE]
  · isplitr; · iexact HR
    isplitl [HO]; · iexact HO
    isplitl [Hx]; · iexact Hx
    iexact HE
  unfold laterKinds
  rw [bigSepL_cons', bigSepL_cons', bigSepL_cons', bigSepL_cons', bigSepL_cons', one_kind]
  iintro ⟨HO, Hx, Hz, HB, Hcr, Ld1, Ld2, Ld3, Ld4, Ld5, Ld6⟩
  ihave HL0 := (lay_in (F := F) c 0) $$ [HL0 Ld1 Ld2]
  · isplitl [HL0]; · iexact HL0
    isplitl [Ld1]; · iexact Ld1
    iexact Ld2
  ihave HL1 := (lay_in (F := F) c 1) $$ [HL1 Ld3 Ld4]
  · isplitl [HL1]; · iexact HL1
    isplitl [Ld3]; · iexact Ld3
    iexact Ld4
  ihave HL2 := (lay_in (F := F) c 2) $$ [HL2 Ld5 Ld6]
  · isplitl [HL2]; · iexact HL2
    isplitl [Ld5]; · iexact Ld5
    iexact Ld6
  rw [wp_then]
  iapply (wp_layer A K W c 0 (layPend 1 ++ (layPend 2 ++ [])) later0 _) $$ [HO Hx Hw0 HL0]
  · isplitr; · iexact HR
    isplitl [HO]; · iexact HO
    isplitl [Hx]; · rw [in0]; iexact Hx
    isplitl [Hw0]; · iexact Hw0
    iexact HL0
  unfold LayOut
  iintro ⟨HO, Hx, Hw0, Gg0, Cs0, Gs0, B0, Cg0⟩
  rw [wp_then]
  iapply (wp_layer A K W c 1 (layPend 2 ++ []) later1 _) $$ [HO B0 Hw1 HL1]
  · isplitr; · iexact HR
    isplitl [HO]; · iexact HO
    isplitl [B0]; · rw [in1]; iexact B0
    isplitl [Hw1]; · iexact Hw1
    iexact HL1
  unfold LayOut
  iintro ⟨HO, B0, Hw1, Gg1, Cs1, Gs1, B1, Cg1⟩
  rw [wp_then]
  iapply (wp_layer A K W c 2 [] (later_nil _) _) $$ [HO B1 Hw2 HL2]
  · isplitr; · iexact HR
    isplitl [HO]; · iexact HO
    isplitl [B1]; · rw [in2]; iexact B1
    isplitl [Hw2]; · iexact Hw2
    iexact HL2
  unfold LayOut
  iintro ⟨HO, B1, Hw2, Gg2, Cs2, Gs2, B2, Cg2⟩
  have eo : ∀ h, red A 2 c h = outRows A c c h := fun h => by unfold outRows; rw [if_pos rfl]
  rw [wp_then, eo, eo]
  iapply (wp_outRows A W c c 0 _ (ownRow_inb2 c 0) rfl (fun _ _ => False) _) $$ [HY]
  · iexists Y
    isplitr; · ipureintro; exact fun _ _ h => h.elim
    iexact HY
  iintro HY
  rw [wp_then]
  iapply (wp_outRows A W c c 1 _ (ownRow_inb2 c 1) rfl _ _) $$ HY
  iintro ⟨%Y1, %hY1, HY⟩
  rw [wp_then]
  iapply (wp_out A K W c _ arrHalves) $$ [HO HY Hrv]
  · isplitl [HO HY]
    · isplitr; · iexact HR
      isplitl [HO]; · iexact HO
      unfold OutSt
      iexists Y1
      isplitr
      · ipureintro
        intro p h hp
        refine hY1 p h ?_
        rcases hp with rfl | ⟨r, -, hr⟩
        · match h with
          | 0 => exact .inl (.inr ⟨rfl, rfl⟩)
          | 1 => exact .inr ⟨rfl, rfl⟩
        · exact absurd (by revert r h; decide) hr
      iexact HY
    rw [← both_arr]
    iexact Hrv
  rw [← both_arr]
  unfold OutSt
  iintro ⟨⟨-, HO, ⟨%Y2, %hY2, HY⟩⟩, Gg3⟩
  have hYf : Y2 = outFinal A c := good_all A c Y2 fun p h => hY2 p h (by
    by_cases hp : p = c
    · exact .inl hp
    · obtain ⟨r, hr⟩ := peer_surj c p hp
      exact .inr ⟨r, hr.symm, List.not_mem_nil⟩)
  subst hYf
  rw [wp_then]
  iapply (wp_drainB A K c (.gather none) halfIssue both_issue _) $$ [HO Hcr]
  · isplitr; · iexact HR
    isplitl [HO]; · iexact HO
    iexact Hcr
  iintro ⟨HO, D0⟩
  rw [wp_then]
  iapply (wp_drainB A K c (.scatter 0) arrHalves both_arr _) $$ [HO Cs0]
  · isplitr; · iexact HR
    isplitl [HO]; · iexact HO
    iexact Cs0
  iintro ⟨HO, D1⟩
  rw [wp_then]
  iapply (wp_drainB A K c (.gather (some 0)) halfIssue both_issue _) $$ [HO Cg0]
  · isplitr; · iexact HR
    isplitl [HO]; · iexact HO
    iexact Cg0
  iintro ⟨HO, D2⟩
  rw [wp_then]
  iapply (wp_drainB A K c (.scatter 1) arrHalves both_arr _) $$ [HO Cs1]
  · isplitr; · iexact HR
    isplitl [HO]; · iexact HO
    iexact Cs1
  iintro ⟨HO, D3⟩
  rw [wp_then]
  iapply (wp_drainB A K c (.gather (some 1)) halfIssue both_issue _) $$ [HO Cg1]
  · isplitr; · iexact HR
    isplitl [HO]; · iexact HO
    iexact Cg1
  iintro ⟨HO, D4⟩
  rw [wp_then]
  iapply (wp_drainB A K c (.scatter 2) arrHalves both_arr _) $$ [HO Cs2]
  · isplitr; · iexact HR
    isplitl [HO]; · iexact HO
    iexact Cs2
  iintro ⟨HO, D5⟩
  iapply (wp_drainB A K c (.gather (some 2)) halfIssue both_issue _) $$ [HO Cg2]
  · isplitr; · iexact HR
    isplitl [HO]; · iexact HO
    iexact Cg2
  iintro ⟨HO, D6⟩
  iapply Hk
  unfold BodyOut
  ihave Hx := (Entails.of_eq (in0 A W c)) $$ Hx
  ihave B0 := (Entails.of_eq (in1 A W c)) $$ B0
  ihave B1 := (Entails.of_eq (in2 A W c)) $$ B1
  isplitl [HO]; · iexact HO
  isplitl [Hx Hw0 Hw1 Hw2 HY]
  · isplitl [Hx]; · iexact Hx
    isplitl [Hw0]; · iexact Hw0
    isplitl [Hw1]; · iexact Hw1
    isplitl [Hw2]; · iexact Hw2
    iexact HY
  isplitl [Hz]; · iexact Hz
  isplitl [Gg0 Gs0 Gg1 Gs1 Gg2 Gs2 Gg3]
  · isplitl [Gg0]; · iexact Gg0
    isplitl [Gs0]; · iexact Gs0
    isplitl [Gg1]; · iexact Gg1
    isplitl [Gs1]; · iexact Gs1
    isplitl [Gg2]; · iexact Gg2
    isplitl [Gs2]; · iexact Gs2
    iexact Gg3
  isplitl [D0 D1 D2 D3 D4 D5 D6]
  · isplitl [D0]; · iexact D0
    isplitl [D1]; · iexact D1
    isplitl [D2]; · iexact D2
    isplitl [D3]; · iexact D3
    isplitl [D4]; · iexact D4
    isplitl [D5]; · iexact D5
    iexact D6
  isplitl [HB]; · iexact HB
  isplitl [B0]; · iexact B0
  isplitl [B1]; · iexact B1
  iexact B2

end Cert.KernelIdeal.Mlp

end
-- ==== Proof.Pieces.lean ====
module

public import proofs.«01_k».proof.Proof.Whole

/-! # The scratch buffers, piece by piece

Each buffer is the family of the pieces the protocol moves, and what it never touches. -/

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok)

variable {F : FTy → Type} [FloatOps F]

local notation "𝕄" => MT nD τ sig Unit (Elt F) ℕ UU ℕ

/-- An index set of one of device `c`'s buffers, at some contents. -/
def raw (c : Dev nD) (b : Ref sig .tc) (S : Finset (Idx ((c : Thread nD τ).loc b))) : sProp 𝕄 :=
  iprop(∃ f : Buf (Elt F) ((c : Thread nD τ).loc b), ((c : Thread nD τ).loc b) ↦[S]{fullShare} f)

theorem raw_blocks {B : Type} [Fintype B] [DecidableEq B] (c : Dev nD) (b : Ref sig .tc) (I : B → Finset (Idx ((c : Thread nD τ).loc b)))
    (hd : ∀ i i', i ≠ i' → Disjoint (I i) (I i')) (hc : Finset.univ.biUnion I = Finset.univ)
    (f₀ : Buf (Elt F) ((c : Thread nD τ).loc b)) :
    (iprop(∃ f : Buf (Elt F) ((c : Thread nD τ).loc b), ((c : Thread nD τ).loc b) ↦{fullShare} f) : sProp 𝕄)
      = bigSep Finset.univ fun i => raw c b (I i) := by
  refine eq_of ?_ (Ring.pointsTo_blocks_join_exists I hd hc f₀)
  iintro ⟨%f, H⟩
  ihave H := (Entails.of_eq (Ring.pointsTo_blocks I hd hc f)) $$ H
  have h1 : ∀ i, (((c : Thread nD τ).loc b) ↦[I i]{fullShare} f : sProp 𝕄) ⊢ raw c b (I i) := fun i => by
    unfold raw
    iintro H
    iexists f
    iexact H
  iapply (show (bigSep Finset.univ fun i => (((c : Thread nD τ).loc b) ↦[I i]{fullShare} f : sProp 𝕄))
    ⊢ bigSep Finset.univ fun i => raw c b (I i) from bigSep_mono fun i _ => h1 i) $$ H

/-! ## The boxes -/

theorem rows2_apart (i i' : Dev nD × Fin 2) (h : i ≠ i') : Disjoint (ownR2 i.1 i.2).set (ownR2 i'.1 i'.2).set := by
  rw [Finset.disjoint_left]
  intro y h1 h2
  have a1 := Rect.mem_set_unit.mp h1 0
  have a2 := Rect.mem_set_unit.mp h2 0
  have b1 : ownRow i.1 i.2 ≤ (y 0).val ∧ (y 0).val < ownRow i.1 i.2 + 128 := a1
  have b2 : ownRow i'.1 i'.2 ≤ (y 0).val ∧ (y 0).val < ownRow i'.1 i'.2 + 128 := a2
  rw [ownRow_eq] at b1 b2
  have := i.2.isLt
  have := i'.2.isLt
  exact h (Prod.ext (Fin.ext (by omega)) (Fin.ext (by omega)))

theorem rows2_cover : (Finset.univ.biUnion fun i : Dev nD × Fin 2 => (ownR2 i.1 i.2).set) = Finset.univ := by
  refine Finset.eq_univ_iff_forall.mpr fun y => Finset.mem_biUnion.mpr ?_
  have h0 : (y 0).val < 2048 := (y 0).isLt
  have h1 : (y 1).val < 256 := (y 1).isLt
  refine ⟨(⟨(y 0).val / 256, by show (y 0).val / 256 < 8; omega⟩, ⟨(y 0).val / 128 % 2, Nat.mod_lt _ (by decide)⟩),
    Finset.mem_univ _, Rect.mem_set_unit.mpr fun a => ?_⟩
  match a with
  | 0 =>
    show ownRow _ _ ≤ (y 0).val ∧ (y 0).val < ownRow _ _ + 128
    rw [ownRow_eq]
    show 256 * ((y 0).val / 256) + 128 * ((y 0).val / 128 % 2) ≤ (y 0).val ∧ (y 0).val < 256 * ((y 0).val / 256) + 128 * ((y 0).val / 128 % 2) + 128
    omega
  | 1 => exact ⟨Nat.zero_le _, by show (y 1).val < 0 + 256; omega⟩

theorem rows3_apart (i i' : Fin 3 × Dev nD × Fin 2) (h : i ≠ i') :
    Disjoint (ownR3 i.1 i.2.1 i.2.2).set (ownR3 i'.1 i'.2.1 i'.2.2).set := by
  rw [Finset.disjoint_left]
  intro y h1 h2
  have a1 : i.1.val ≤ (y 0).val ∧ (y 0).val < i.1.val + 1 := Rect.mem_set_unit.mp h1 0
  have a2 : i'.1.val ≤ (y 0).val ∧ (y 0).val < i'.1.val + 1 := Rect.mem_set_unit.mp h2 0
  have b1 : ownRow i.2.1 i.2.2 ≤ (y 1).val ∧ (y 1).val < ownRow i.2.1 i.2.2 + 128 := Rect.mem_set_unit.mp h1 1
  have b2 : ownRow i'.2.1 i'.2.2 ≤ (y 1).val ∧ (y 1).val < ownRow i'.2.1 i'.2.2 + 128 := Rect.mem_set_unit.mp h2 1
  rw [ownRow_eq] at b1 b2
  have := i.2.2.isLt
  have := i'.2.2.isLt
  exact h (Prod.ext (Fin.ext (by omega)) (Prod.ext (Fin.ext (by omega)) (Fin.ext (by omega))))

theorem rows3_cover : (Finset.univ.biUnion fun i : Fin 3 × Dev nD × Fin 2 => (ownR3 i.1 i.2.1 i.2.2).set) = Finset.univ := by
  refine Finset.eq_univ_iff_forall.mpr fun y => Finset.mem_biUnion.mpr ?_
  have h0 : (y 0).val < 3 := (y 0).isLt
  have h1 : (y 1).val < 2048 := (y 1).isLt
  have h2 : (y 2).val < 256 := (y 2).isLt
  refine ⟨(⟨(y 0).val, h0⟩, ⟨(y 1).val / 256, by show (y 1).val / 256 < 8; omega⟩, ⟨(y 1).val / 128 % 2, Nat.mod_lt _ (by decide)⟩),
    Finset.mem_univ _, Rect.mem_set_unit.mpr fun a => ?_⟩
  match a with
  | 0 => exact ⟨le_refl _, Nat.lt_succ_self _⟩
  | 1 =>
    show ownRow _ _ ≤ (y 1).val ∧ (y 1).val < ownRow _ _ + 128
    rw [ownRow_eq]
    show 256 * ((y 1).val / 256) + 128 * ((y 1).val / 128 % 2) ≤ (y 1).val ∧ (y 1).val < 256 * ((y 1).val / 256) + 128 * ((y 1).val / 128 % 2) + 128
    omega
  | 2 => exact ⟨Nat.zero_le _, by show (y 2).val < 0 + 256; omega⟩

theorem box_inb : ∀ (l : Fin 3) (j : Fin 8) (h : Fin 2), ∀ a,
    (![l.val, j.val, 128 * h.val, 0] : Fin 4 → ℕ) a + S1x1x128x256.size a ≤ S3x8x256x256.size a := by decide +kernel

/-- A slot of the landing buffer; number 0 is never used. -/
abbrev boxR (l : Fin 3) (j : Fin 8) (h : Fin 2) : Rect S3x8x256x256 :=
  Rect.unit (s := S3x8x256x256) ![l.val, j.val, 128 * h.val, 0] S1x1x128x256.size (box_inb l j h)

theorem box_apart (i i' : Fin 3 × Fin 8 × Fin 2) (h : i ≠ i') :
    Disjoint (boxR i.1 i.2.1 i.2.2).set (boxR i'.1 i'.2.1 i'.2.2).set := by
  rw [Finset.disjoint_left]
  intro y h1 h2
  have a1 : i.1.val ≤ (y 0).val ∧ (y 0).val < i.1.val + 1 := Rect.mem_set_unit.mp h1 0
  have a2 : i'.1.val ≤ (y 0).val ∧ (y 0).val < i'.1.val + 1 := Rect.mem_set_unit.mp h2 0
  have b1 : i.2.1.val ≤ (y 1).val ∧ (y 1).val < i.2.1.val + 1 := Rect.mem_set_unit.mp h1 1
  have b2 : i'.2.1.val ≤ (y 1).val ∧ (y 1).val < i'.2.1.val + 1 := Rect.mem_set_unit.mp h2 1
  have c1 : 128 * i.2.2.val ≤ (y 2).val ∧ (y 2).val < 128 * i.2.2.val + 128 := Rect.mem_set_unit.mp h1 2
  have c2 : 128 * i'.2.2.val ≤ (y 2).val ∧ (y 2).val < 128 * i'.2.2.val + 128 := Rect.mem_set_unit.mp h2 2
  exact h (Prod.ext (Fin.ext (by omega)) (Prod.ext (Fin.ext (by omega)) (Fin.ext (by omega))))

theorem box_cover : (Finset.univ.biUnion fun i : Fin 3 × Fin 8 × Fin 2 => (boxR i.1 i.2.1 i.2.2).set) = Finset.univ := by
  refine Finset.eq_univ_iff_forall.mpr fun y => Finset.mem_biUnion.mpr ?_
  have h0 : (y 0).val < 3 := (y 0).isLt
  have h1 : (y 1).val < 8 := (y 1).isLt
  have h2 : (y 2).val < 256 := (y 2).isLt
  have h3 : (y 3).val < 256 := (y 3).isLt
  refine ⟨(⟨(y 0).val, h0⟩, ⟨(y 1).val, h1⟩, ⟨(y 2).val / 128, by omega⟩), Finset.mem_univ _, Rect.mem_set_unit.mpr fun a => ?_⟩
  match a with
  | 0 => exact ⟨le_refl _, Nat.lt_succ_self _⟩
  | 1 => exact ⟨le_refl _, Nat.lt_succ_self _⟩
  | 2 =>
    show 128 * ((y 2).val / 128) ≤ (y 2).val ∧ (y 2).val < 128 * ((y 2).val / 128) + 128
    omega
  | 3 => exact ⟨Nat.zero_le _, by show (y 3).val < 0 + 256; omega⟩

theorem boxR_slot (l : Fin 3) (r : Fin 7) (h : Fin 2) : (boxR l r.succ h).set = (slotR l r h).set := by
  ext y
  rw [Rect.mem_set_unit, Rect.mem_set_unit]
  refine forall_congr' fun a => ?_
  match a with
  | 0 => exact Iff.rfl
  | 1 =>
    show r.val + 1 ≤ (y 1).val ∧ (y 1).val < r.val + 1 + 1 ↔ 1 + r.val ≤ (y 1).val ∧ (y 1).val < 1 + r.val + 1
    omega
  | 2 => exact Iff.rfl
  | 3 => exact Iff.rfl

/-! ## The pieces of the protocol -/

theorem some_raw (c : Dev nD) (m : Memref sig .tc .vmem S128x256 .bf16) :
    (iprop(∃ X, own c m fullShare X) : sProp 𝕄)
      = iprop(∃ f : Buf (Elt F) (m.view.loc (c : Thread nD τ)), m.view.loc (c : Thread nD τ) ↦[m.view.set]{fullShare} f) := by
  refine eq_of ?_ ?_
  · unfold own owns
    iintro ⟨%X, %f, -, H⟩
    iexists f
    iexact H
  · iintro ⟨%f, H⟩
    iapply (own_some c m fullShare f) $$ H

theorem raw_gat_none (c p : Dev nD) (h : Fin 2) :
    (iprop(∃ X, own c (gatOwn none p h) fullShare X) : sProp 𝕄) = raw c cc0_scratch0 (ownR2 p h).set :=
  (some_raw c (gatOwn none p h)).trans
    (congrArg (raw (F := F) c cc0_scratch0) (View.set_slice_whole (sig := sig) cc0_scratch0 (ownR2 p h)))

theorem raw_gat_some (c p : Dev nD) (l : Fin 3) (h : Fin 2) :
    (iprop(∃ X, own c (gatOwn (some l) p h) fullShare X) : sProp 𝕄) = raw c cc0_scratch1 (ownR3 l p h).set :=
  (some_raw c (gatOwn (some l) p h)).trans
    (congrArg (raw (F := F) c cc0_scratch1) ((View.set_reshape (v := xns.access (ownR3 l p h)) _).trans
      (View.set_slice_whole (sig := sig) cc0_scratch1 (ownR3 l p h))))

theorem peerR3_set (l : Fin 3) (c : Dev nD) (r : Fin 7) (h : Fin 2) : (peerR3 l c r h).set = (ownR3 l (peer c r) h).set := by
  ext y
  rw [Rect.mem_set_unit, Rect.mem_set_unit]
  rw [peerRow_eq]

theorem raw_prod (c : Dev nD) (l : Fin 3) (r : Fin 7) (h : Fin 2) :
    (iprop(∃ X, own c (prodPiece l c r h) fullShare X) : sProp 𝕄) = raw c cc0_scratch2 (ownR3 l (peer c r) h).set :=
  (some_raw c (prodPiece l c r h)).trans
    (congrArg (raw (F := F) c cc0_scratch2) (((View.set_reshape (v := sbufs.access (peerR3 l c r h)) _).trans
      (View.set_slice_whole (sig := sig) cc0_scratch2 (peerR3 l c r h))).trans (peerR3_set l c r h)))

theorem raw_slot (c : Dev nD) (l : Fin 3) (r : Fin 7) (h : Fin 2) :
    (iprop(∃ X, own c (slot l r h) fullShare X) : sProp 𝕄) = raw c cc0_scratch3 (boxR l r.succ h).set :=
  (some_raw c (slot l r h)).trans
    (congrArg (raw (F := F) c cc0_scratch3) (((View.set_reshape (v := rbufs.access (slotR l r h)) _).trans
      (View.set_slice_whole (sig := sig) cc0_scratch3 (slotR l r h))).trans (boxR_slot l r h).symm))

/-! ## Own and peers' -/

theorem erase_peers (c : Dev nD) : (Finset.univ : Finset (Dev nD)).erase c = Finset.univ.map ⟨peer c, fun r r' h => peer_inj c r r' h⟩ := by
  revert c; decide +kernel

theorem dev_split (c : Dev nD) (Φ : Dev nD → sProp 𝕄) :
    bigSep Finset.univ Φ = iprop(Φ c ∗ bigSep Finset.univ fun r : Fin 7 => Φ (peer c r)) := by
  rw [bigSep_univ_split c, erase_peers c, bigSep_map]
  rfl

theorem rows_split (c : Dev nD) (Φ : Dev nD → Fin 2 → sProp 𝕄) :
    (bigSep Finset.univ fun i : Dev nD × Fin 2 => Φ i.1 i.2)
      = iprop((Φ c 0 ∗ Φ c 1) ∗ both fun x => Φ (peer c x.1) x.2) := by
  unfold both
  rw [bigSep_univ_prod, dev_split c, bigSep_univ_two, bigSep_univ_prod]

theorem box_split (Φ : Fin 8 → Fin 2 → sProp 𝕄) :
    (bigSep Finset.univ fun i : Fin 8 × Fin 2 => Φ i.1 i.2)
      = iprop((Φ 0 0 ∗ Φ 0 1) ∗ both fun x => Φ x.1.succ x.2) := by
  unfold both
  rw [bigSep_univ_prod, bigSep_univ_split (0 : Fin 8), bigSep_univ_two, bigSep_univ_prod,
    show (Finset.univ : Finset (Fin 8)).erase 0 = Finset.univ.map (Fin.succEmb 7) by decide, bigSep_map]
  rfl

theorem three_split {B : Type} [Fintype B] (Φ : Fin 3 → B → sProp 𝕄) :
    (bigSep Finset.univ fun i : Fin 3 × B => Φ i.1 i.2)
      = iprop(bigSep Finset.univ (Φ 0) ∗ bigSep Finset.univ (Φ 1) ∗ bigSep Finset.univ (Φ 2)) := by
  rw [bigSep_univ_prod, bigSep_univ_eq_bigSepL [0, 1, 2] (by decide) (by decide)]
  rfl

/-! ## The four buffers -/

/-- The places the peers write, by phase. -/
def Place (c : Dev nD) (k : Kind) : sProp 𝕄 := both fun x => iprop(∃ X, own c (dstV k (peer c x.1) x.1 x.2) fullShare X)
/-- A device's own rows of a stage. -/
def OwnRows (c : Dev nD) (g : Option (Fin 3)) : sProp 𝕄 :=
  iprop((∃ X, own c (gatOwn g c 0) fullShare X) ∗ (∃ X, own c (gatOwn g c 1) fullShare X))
/-- Its send pieces of a layer. -/
def Prods (c : Dev nD) (l : Fin 3) : sProp 𝕄 := both fun x => iprop(∃ X, own c (prodPiece l c x.1 x.2) fullShare X)
/-- What the protocol never touches. -/
def Left (c : Dev nD) (l : Fin 3) : sProp 𝕄 :=
  iprop((raw (F := F) c cc0_scratch2 (ownR3 l c 0).set ∗ raw (F := F) c cc0_scratch2 (ownR3 l c 1).set)
    ∗ (raw (F := F) c cc0_scratch3 (boxR l 0 0).set ∗ raw (F := F) c cc0_scratch3 (boxR l 0 1).set))

theorem scratch0_eq (c : Dev nD) (f₀ : Buf (Elt F) ((c : Thread nD τ).loc cc0_scratch0)) :
    (iprop(∃ f : Buf (Elt F) ((c : Thread nD τ).loc cc0_scratch0), ((c : Thread nD τ).loc cc0_scratch0) ↦{fullShare} f) : sProp 𝕄)
      = iprop(OwnRows (F := F) c none ∗ Place (F := F) c (.gather none)) := by
  rw [raw_blocks c cc0_scratch0 (fun i : Dev nD × Fin 2 => (ownR2 i.1 i.2).set) rows2_apart rows2_cover f₀,
    rows_split c (fun p h => raw (F := F) c cc0_scratch0 (ownR2 p h).set)]
  unfold OwnRows Place dstV
  simp only [raw_gat_none]

theorem scratch1_eq (c : Dev nD) (f₀ : Buf (Elt F) ((c : Thread nD τ).loc cc0_scratch1)) :
    (iprop(∃ f : Buf (Elt F) ((c : Thread nD τ).loc cc0_scratch1), ((c : Thread nD τ).loc cc0_scratch1) ↦{fullShare} f) : sProp 𝕄)
      = iprop((OwnRows (F := F) c (some 0) ∗ Place (F := F) c (.gather (some 0))) ∗ (OwnRows (F := F) c (some 1) ∗ Place (F := F) c (.gather (some 1)))
        ∗ (OwnRows (F := F) c (some 2) ∗ Place (F := F) c (.gather (some 2)))) := by
  rw [raw_blocks c cc0_scratch1 (fun i : Fin 3 × Dev nD × Fin 2 => (ownR3 i.1 i.2.1 i.2.2).set) rows3_apart rows3_cover f₀,
    three_split (fun l (i : Dev nD × Fin 2) => raw (F := F) c cc0_scratch1 (ownR3 l i.1 i.2).set),
    rows_split c (fun p h => raw (F := F) c cc0_scratch1 (ownR3 0 p h).set),
    rows_split c (fun p h => raw (F := F) c cc0_scratch1 (ownR3 1 p h).set),
    rows_split c (fun p h => raw (F := F) c cc0_scratch1 (ownR3 2 p h).set)]
  unfold OwnRows Place dstV
  simp only [raw_gat_some]

theorem scratch2_eq (c : Dev nD) (f₀ : Buf (Elt F) ((c : Thread nD τ).loc cc0_scratch2)) :
    (iprop(∃ f : Buf (Elt F) ((c : Thread nD τ).loc cc0_scratch2), ((c : Thread nD τ).loc cc0_scratch2) ↦{fullShare} f) : sProp 𝕄)
      = iprop(((raw (F := F) c cc0_scratch2 (ownR3 0 c 0).set ∗ raw (F := F) c cc0_scratch2 (ownR3 0 c 1).set) ∗ Prods (F := F) c 0)
        ∗ ((raw (F := F) c cc0_scratch2 (ownR3 1 c 0).set ∗ raw (F := F) c cc0_scratch2 (ownR3 1 c 1).set) ∗ Prods (F := F) c 1)
        ∗ ((raw (F := F) c cc0_scratch2 (ownR3 2 c 0).set ∗ raw (F := F) c cc0_scratch2 (ownR3 2 c 1).set) ∗ Prods (F := F) c 2)) := by
  rw [raw_blocks c cc0_scratch2 (fun i : Fin 3 × Dev nD × Fin 2 => (ownR3 i.1 i.2.1 i.2.2).set) rows3_apart rows3_cover f₀,
    three_split (fun l (i : Dev nD × Fin 2) => raw (F := F) c cc0_scratch2 (ownR3 l i.1 i.2).set),
    rows_split c (fun p h => raw (F := F) c cc0_scratch2 (ownR3 0 p h).set),
    rows_split c (fun p h => raw (F := F) c cc0_scratch2 (ownR3 1 p h).set),
    rows_split c (fun p h => raw (F := F) c cc0_scratch2 (ownR3 2 p h).set)]
  unfold Prods
  simp only [raw_prod]

theorem scratch3_eq (c : Dev nD) (f₀ : Buf (Elt F) ((c : Thread nD τ).loc cc0_scratch3)) :
    (iprop(∃ f : Buf (Elt F) ((c : Thread nD τ).loc cc0_scratch3), ((c : Thread nD τ).loc cc0_scratch3) ↦{fullShare} f) : sProp 𝕄)
      = iprop(((raw (F := F) c cc0_scratch3 (boxR 0 0 0).set ∗ raw (F := F) c cc0_scratch3 (boxR 0 0 1).set) ∗ Place (F := F) c (.scatter 0))
        ∗ ((raw (F := F) c cc0_scratch3 (boxR 1 0 0).set ∗ raw (F := F) c cc0_scratch3 (boxR 1 0 1).set) ∗ Place (F := F) c (.scatter 1))
        ∗ ((raw (F := F) c cc0_scratch3 (boxR 2 0 0).set ∗ raw (F := F) c cc0_scratch3 (boxR 2 0 1).set) ∗ Place (F := F) c (.scatter 2))) := by
  rw [raw_blocks c cc0_scratch3 (fun i : Fin 3 × Fin 8 × Fin 2 => (boxR i.1 i.2.1 i.2.2).set) box_apart box_cover f₀,
    three_split (fun l (i : Fin 8 × Fin 2) => raw (F := F) c cc0_scratch3 (boxR l i.1 i.2).set),
    box_split (fun p h => raw (F := F) c cc0_scratch3 (boxR 0 p h).set),
    box_split (fun p h => raw (F := F) c cc0_scratch3 (boxR 1 p h).set),
    box_split (fun p h => raw (F := F) c cc0_scratch3 (boxR 2 p h).set)]
  unfold Place dstV
  simp only [raw_slot]

/-- The four scratch buffers. -/
def Scr (c : Dev nD) : sProp 𝕄 :=
  iprop((Place (F := F) c (.gather none) ∗ Place (F := F) c (.scatter 0) ∗ Place (F := F) c (.gather (some 0)) ∗ Place (F := F) c (.scatter 1)
      ∗ Place (F := F) c (.gather (some 1)) ∗ Place (F := F) c (.scatter 2) ∗ Place (F := F) c (.gather (some 2)))
    ∗ (OwnRows (F := F) c none ∗ OwnRows (F := F) c (some 0) ∗ OwnRows (F := F) c (some 1) ∗ OwnRows (F := F) c (some 2))
    ∗ (Prods (F := F) c 0 ∗ Prods (F := F) c 1 ∗ Prods (F := F) c 2)
    ∗ (Left (F := F) c 0 ∗ Left (F := F) c 1 ∗ Left (F := F) c 2))

theorem scr_eq (c : Dev nD) (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3)) :
    (Pipeline.scopedRest (Ix := Unit) (Name := ℕ) (U := UU) (Lvl := ℕ) (Val := Elt F) spec0 c : sProp 𝕄) = Scr (F := F) c := by
  rw [scopedRest0_eq, scratch0_eq c f0, scratch1_eq c f1, scratch2_eq c f2, scratch3_eq c f3]
  unfold Scr Left
  refine eq_of ?_ ?_
  · iintro ⟨⟨O, P0⟩, ⟨⟨O0, P2⟩, ⟨O1, P4⟩, O2, P6⟩, ⟨⟨La, S0⟩, ⟨Lb, S1⟩, Lc, S2⟩, ⟨Ld, P1⟩, ⟨Le, P3⟩, Lf, P5⟩
    isplitl [P0 P1 P2 P3 P4 P5 P6]
    · isplitl [P0]; · iexact P0
      isplitl [P1]; · iexact P1
      isplitl [P2]; · iexact P2
      isplitl [P3]; · iexact P3
      isplitl [P4]; · iexact P4
      isplitl [P5]; · iexact P5
      iexact P6
    isplitl [O O0 O1 O2]
    · isplitl [O]; · iexact O
      isplitl [O0]; · iexact O0
      isplitl [O1]; · iexact O1
      iexact O2
    isplitl [S0 S1 S2]
    · isplitl [S0]; · iexact S0
      isplitl [S1]; · iexact S1
      iexact S2
    isplitl [La Ld]
    · isplitl [La]; · iexact La
      iexact Ld
    isplitl [Lb Le]
    · isplitl [Lb]; · iexact Lb
      iexact Le
    isplitl [Lc]; · iexact Lc
    iexact Lf
  · iintro ⟨⟨P0, P1, P2, P3, P4, P5, P6⟩, ⟨O, O0, O1, O2⟩, ⟨S0, S1, S2⟩, ⟨La, Ld⟩, ⟨Lb, Le⟩, Lc, Lf⟩
    isplitl [O P0]
    · isplitl [O]; · iexact O
      iexact P0
    isplitl [O0 P2 O1 P4 O2 P6]
    · isplitl [O0 P2]
      · isplitl [O0]; · iexact O0
        iexact P2
      isplitl [O1 P4]
      · isplitl [O1]; · iexact O1
        iexact P4
      isplitl [O2]; · iexact O2
      iexact P6
    isplitl [La S0 Lb S1 Lc S2]
    · isplitl [La S0]
      · isplitl [La]; · iexact La
        iexact S0
      isplitl [Lb S1]
      · isplitl [Lb]; · iexact Lb
        iexact S1
      isplitl [Lc]; · iexact Lc
      iexact S2
    isplitl [Ld P1]
    · isplitl [Ld]; · iexact Ld
      iexact P1
    isplitl [Le P3]
    · isplitl [Le]; · iexact Le
      iexact P3
    isplitl [Lf]; · iexact Lf
    iexact P5

/-- What a device hands to its peers at the barrier. -/
theorem bar_give (c : Dev nD) :
    (bigSepL issue fun r => barPay (F := F) (peer c r) r)
      = iprop(Place (F := F) c (.gather none) ∗ Place (F := F) c (.scatter 0) ∗ Place (F := F) c (.gather (some 0)) ∗ Place (F := F) c (.scatter 1)
      ∗ Place (F := F) c (.gather (some 1)) ∗ Place (F := F) c (.scatter 2) ∗ Place (F := F) c (.gather (some 2))) := by
  rw [← bigSep_univ_eq_bigSepL issue (by decide) (by decide)]
  have e : ∀ r : Fin 7, barPay (F := F) (peer c r) r
      = bigSep Finset.univ fun x : Kind × Fin 2 => iprop(∃ X, own c (dstV x.1 (peer c r) r x.2) fullShare X) := fun r => by
    unfold barPay
    rw [peer_peer]
  simp only [e]
  exact by_phase (fun t : T => iprop(∃ X, own c (dstV t.1 (peer c t.2.1) t.2.1 t.2.2) fullShare X))

end Cert.KernelIdeal.Mlp

end
-- ==== Proof.Ends.lean ====
module

public import proofs.«01_k».proof.Proof.Pieces

/-! # From the scratch buffers to the kernel's resources and back

What a device is handed at the launch makes what its program starts with, and what the program ends with gives the
scratch buffers back whole and every semaphore at zero. -/

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok)

variable {F : FTy → Type} [FloatOps F]

local notation "𝕄" => MT nD τ sig Unit (Elt F) ℕ UU ℕ

variable (A : Inputs F)

/-- A family over the transfers, phase by phase. -/
theorem all_kinds (Φ : T → sProp 𝕄) : bigSep Finset.univ Φ = bigSepL kindList fun k => both fun x => Φ (k, x) := by
  rw [← bigSep_univ_eq_bigSepL kindList kind_univ kind_nodup (fun k => both fun x => Φ (k, x)), bigSep_univ_prod]
  rfl

/-- Seven phases written out. -/
theorem seven (Φ : Kind → sProp 𝕄) : bigSepL kindList Φ
    = iprop(Φ (.gather none) ∗ Φ (.scatter 0) ∗ Φ (.gather (some 0)) ∗ Φ (.scatter 1) ∗ Φ (.gather (some 1)) ∗ Φ (.scatter 2) ∗ Φ (.gather (some 2))) := rfl

theorem both_sep_eq (Φ Ψ : Fin 7 × Fin 2 → sProp 𝕄) : (both fun x => iprop(Φ x ∗ Ψ x)) = iprop(both Φ ∗ both Ψ) := by
  unfold both; exact bigSep_sep' _ _ _

/-- The tokens and credits of a device. -/
def StartTk (c : Dev nD) : sProp 𝕄 :=
  iprop((bigSepL issue fun r => (dutyTok ER (barCell (peer c r)) 0 r : sProp 𝕄)) ∗ (atPos ER (barCell c) 0 ∅ 0 ∗ cred (tallyAt (barCell c) () 7))
    ∗ (bigSep Finset.univ fun t : T => Rv (F := F) c t) ∗ bigSep Finset.univ fun t : T => Tk (F := F) c t)

theorem own_join (c : Dev nD) (g : Option (Fin 3)) : OwnRows (F := F) c g ⊢ iprop(∃ B, ownBlock c g fullShare B) := by
  unfold OwnRows
  iintro ⟨⟨%X0, H0⟩, ⟨%X1, H1⟩⟩
  iexists (joinRows (fun h : Fin 2 => if h = 0 then X0 else X1))
  iapply (block_halves c g fullShare _).2
  rw [rowsOf_joinRows, rowsOf_joinRows, if_pos rfl, if_neg (by decide)]
  isplitl [H0]; · iexact H0
  iexact H1

/-- What the program starts with. -/
theorem body_in (c : Dev nD) :
    iprop(Scr (F := F) c ∗ StartTk (F := F) c) ⊢ iprop(BodyIn (F := F) c ∗ (Left (F := F) c 0 ∗ Left (F := F) c 1 ∗ Left (F := F) c 2)) := by
  unfold Scr StartTk BodyIn
  rw [← bar_give, all_kinds, all_kinds, seven, seven]
  iintro ⟨⟨HP, ⟨O, O0, O1, O2⟩, ⟨S0, S1, S2⟩, HL⟩, Hd, Hb, ⟨R0, R1, R2, R3, R4, R5, R6⟩, T0, T1, T2, T3, T4, T5, T6⟩
  isplitr [HL]
  · isplitl [HP O Hd Hb T0]
    · unfold EntryIn
      isplitl [Hd HP]
      · rw [bigSepL_sep_eq]
        isplitl [Hd]; · iexact Hd
        iexact HP
      isplitl [Hb]; · iexact Hb
      isplitl [O]; · iapply (own_join c none) $$ O
      iexact T0
    unfold LayTk OwnRows Prods
    isplitl [R0 T1 S0 R1 O0 T2]
    · isplitl [R0]; · iexact R0
      isplitl [T1]; · iexact T1
      isplitl [S0]; · iexact S0
      isplitl [R1]; · iexact R1
      icases O0 with ⟨Oa, Ob⟩
      isplitl [Oa]; · iexact Oa
      isplitl [Ob]; · iexact Ob
      iexact T2
    isplitl [R2 T3 S1 R3 O1 T4]
    · isplitl [R2]; · iexact R2
      isplitl [T3]; · iexact T3
      isplitl [S1]; · iexact S1
      isplitl [R3]; · iexact R3
      icases O1 with ⟨Oa, Ob⟩
      isplitl [Oa]; · iexact Oa
      isplitl [Ob]; · iexact Ob
      iexact T4
    isplitl [R4 T5 S2 R5 O2 T6]
    · isplitl [R4]; · iexact R4
      isplitl [T5]; · iexact T5
      isplitl [S2]; · iexact S2
      isplitl [R5]; · iexact R5
      icases O2 with ⟨Oa, Ob⟩
      isplitl [Oa]; · iexact Oa
      isplitl [Ob]; · iexact Ob
      iexact T6
    iexact R6
  iexact HL

/-- What a phase leaves on the receiver. -/
theorem got_place (c : Dev nD) (k : Kind) :
    (both fun x => Got A c (k, x)) ⊢ iprop(Place (F := F) c k ∗ both fun x => (semVal (rcvCell c (k, x)) 0 : sProp 𝕄)) := by
  unfold Place
  rw [← both_sep_eq]
  have h : ∀ x : Fin 7 × Fin 2, Got A c (k, x)
      ⊢ iprop((∃ X, own c (dstV k (peer c x.1) x.1 x.2) fullShare X) ∗ semVal (rcvCell c (k, x)) 0) := fun x => by
    unfold Got rcvPay
    iintro ⟨H, Hv⟩
    isplitl [H]; · iexists _; iexact H
    iexact Hv
  exact bigSep_mono fun x _ => h x

/-- What a scatter leaves on the sender, -/
theorem dn_prods (c : Dev nD) (l : Fin 3) :
    (both fun x => Dn A c (.scatter l, x)) ⊢ iprop(Prods (F := F) c l ∗ both fun x => (semVal (sndCell c (.scatter l, x)) 0 : sProp 𝕄)) := by
  unfold Prods
  rw [← both_sep_eq]
  have h : ∀ x : Fin 7 × Fin 2, Dn A c (.scatter l, x)
      ⊢ iprop((∃ X, own c (prodPiece l c x.1 x.2) fullShare X) ∗ semVal (sndCell c (.scatter l, x)) 0) := fun x => by
    unfold Dn sndPay
    iintro ⟨H, Hv⟩
    isplitl [H]; · iexists _; iexact H
    iexact Hv
  exact bigSep_mono fun x _ => h x

/-- and a gather. -/
theorem dn_own (c : Dev nD) (g : Option (Fin 3)) :
    iprop((both fun x => Dn A c (.gather g, x)) ∗ ownBlock c g kept (blk A g c))
      ⊢ iprop(OwnRows (F := F) c g ∗ both fun x => (semVal (sndCell c (.gather g, x)) 0 : sProp 𝕄)) := by
  have e : (both fun x => Dn A c (.gather g, x))
      = iprop(both (fun x => own c (gatOwn g c x.2) (shr (.gather g) x.1) (rowsOf x.2 (blk A g c))) ∗ both fun x => (semVal (sndCell c (.gather g, x)) 0 : sProp 𝕄)) := by
    rw [← both_sep_eq]; rfl
  rw [e, both_issue_two]
  iintro ⟨⟨⟨H0, H1⟩, Hv⟩, HB⟩
  ihave HB := (block_halves c g kept (blk A g c)).1 $$ HB
  icases HB with ⟨B0, B1⟩
  isplitr [Hv]
  · unfold OwnRows
    isplitl [H0 B0]
    · iexists _
      iapply (Entails.of_eq (own_toks c g 0 (rowsOf 0 (blk A g c))).symm)
      isplitl [B0]; · iexact B0
      iexact H0
    · iexists _
      iapply (Entails.of_eq (own_toks c g 1 (rowsOf 1 (blk A g c))).symm)
      isplitl [B1]; · iexact B1
      iexact H1
  iexact Hv

/-- Every copy's semaphores at zero. -/
def Zeros (c : Dev nD) : sProp 𝕄 :=
  iprop((bigSep Finset.univ fun t : T => (semVal (sndCell c t) 0 : sProp 𝕄)) ∗ bigSep Finset.univ fun t : T => (semVal (rcvCell c t) 0 : sProp 𝕄))

/-- What the program gives back. -/
theorem body_out (c : Dev nD) :
    iprop(BodyOut A c ∗ (Left (F := F) c 0 ∗ Left (F := F) c 1 ∗ Left (F := F) c 2))
      ⊢ iprop(semVal (barCell c) 0 ∗ Zeros (F := F) c ∗ Scr (F := F) c) := by
  unfold BodyOut Zeros Scr
  rw [all_kinds, all_kinds, seven, seven]
  iintro ⟨⟨Hz, ⟨G0, G1, G2, G3, G4, G5, G6⟩, ⟨D0, D1, D2, D3, D4, D5, D6⟩, O, O0, O1, O2⟩, HL⟩
  ihave G0 := (got_place A c (.gather none)) $$ G0
  ihave G1 := (got_place A c (.scatter 0)) $$ G1
  ihave G2 := (got_place A c (.gather (some 0))) $$ G2
  ihave G3 := (got_place A c (.scatter 1)) $$ G3
  ihave G4 := (got_place A c (.gather (some 1))) $$ G4
  ihave G5 := (got_place A c (.scatter 2)) $$ G5
  ihave G6 := (got_place A c (.gather (some 2))) $$ G6
  ihave D1 := (dn_prods A c 0) $$ D1
  ihave D3 := (dn_prods A c 1) $$ D3
  ihave D5 := (dn_prods A c 2) $$ D5
  ihave D0 := (dn_own A c none) $$ [D0 O]
  · isplitl [D0]; · iexact D0
    iexact O
  ihave D2 := (dn_own A c (some 0)) $$ [D2 O0]
  · isplitl [D2]; · iexact D2
    iexact O0
  ihave D4 := (dn_own A c (some 1)) $$ [D4 O1]
  · isplitl [D4]; · iexact D4
    iexact O1
  ihave D6 := (dn_own A c (some 2)) $$ [D6 O2]
  · isplitl [D6]; · iexact D6
    iexact O2
  icases G0 with ⟨P0, V0⟩
  icases G1 with ⟨P1, V1⟩
  icases G2 with ⟨P2, V2⟩
  icases G3 with ⟨P3, V3⟩
  icases G4 with ⟨P4, V4⟩
  icases G5 with ⟨P5, V5⟩
  icases G6 with ⟨P6, V6⟩
  icases D0 with ⟨E0, U0⟩
  icases D1 with ⟨E1, U1⟩
  icases D2 with ⟨E2, U2⟩
  icases D3 with ⟨E3, U3⟩
  icases D4 with ⟨E4, U4⟩
  icases D5 with ⟨E5, U5⟩
  icases D6 with ⟨E6, U6⟩
  isplitl [Hz]; · iexact Hz
  isplitl [V0 V1 V2 V3 V4 V5 V6 U0 U1 U2 U3 U4 U5 U6]
  · isplitl [U0 U1 U2 U3 U4 U5 U6]
    · isplitl [U0]; · iexact U0
      isplitl [U1]; · iexact U1
      isplitl [U2]; · iexact U2
      isplitl [U3]; · iexact U3
      isplitl [U4]; · iexact U4
      isplitl [U5]; · iexact U5
      iexact U6
    isplitl [V0]; · iexact V0
    isplitl [V1]; · iexact V1
    isplitl [V2]; · iexact V2
    isplitl [V3]; · iexact V3
    isplitl [V4]; · iexact V4
    isplitl [V5]; · iexact V5
    iexact V6
  isplitl [P0 P1 P2 P3 P4 P5 P6]
  · isplitl [P0]; · iexact P0
    isplitl [P1]; · iexact P1
    isplitl [P2]; · iexact P2
    isplitl [P3]; · iexact P3
    isplitl [P4]; · iexact P4
    isplitl [P5]; · iexact P5
    iexact P6
  isplitl [E0 E2 E4 E6]
  · isplitl [E0]; · iexact E0
    isplitl [E2]; · iexact E2
    isplitl [E4]; · iexact E4
    iexact E6
  isplitl [E1 E3 E5]
  · isplitl [E1]; · iexact E1
    isplitl [E3]; · iexact E3
    iexact E5
  iexact HL

end Cert.KernelIdeal.Mlp

end
-- ==== Proof.Ghost.lean ====
module

public import proofs.«01_k».proof.Proof.Ends

/-! # The ghost state at the launch

The cells and duty tokens of all devices are made at once. Each device keeps its own positions, and every duty token goes
to the device that pays the duty: the one across the mesh. -/

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok)

variable {F : FTy → Type} [FloatOps F]

local notation "𝕄" => MT nD τ sig Unit (Elt F) ℕ UU ℕ

variable (A : Inputs F)

def meshCells : Finset (GSem nD τ sig) := Finset.univ.map ⟨kcell, kcell_injective⟩

/-- A device's cells' duty tokens: the barrier's seven, and one of each copy's two cells. -/
def tokOf (cj : Dev nD × (Fin 7 ⊕ (Bool × T))) : GSem nD τ sig × ℕ × Fin 7 :=
  match cj.2 with
  | .inl r => (barCell cj.1, 0, r)
  | .inr x => (kcell (cj.1, .inr x), 0, 0)

theorem tokOf_injective : Function.Injective tokOf := by
  rintro ⟨c, j⟩ ⟨c', j'⟩ e
  have e1 : (tokOf (c, j)).1 = (tokOf (c', j')).1 := congrArg Prod.fst e
  have e2 : (tokOf (c, j)).2.2 = (tokOf (c', j')).2.2 := congrArg (fun x => x.2.2) e
  rcases j with r | x <;> rcases j' with r' | x'
  · have h := kcell_injective (e1 : kcell (c, cBar) = kcell (c', cBar))
    rw [show c = c' from congrArg Prod.fst h, show r = r' from e2]
  · exact absurd (congrArg Prod.snd (kcell_injective (e1 : kcell (c, cBar) = kcell (c', .inr x')))) (fun h => by cases h)
  · exact absurd (congrArg Prod.snd (kcell_injective (e1 : kcell (c, .inr x) = kcell (c', cBar)))) (fun h => by cases h)
  · have h := kcell_injective (e1 : kcell (c, .inr x) = kcell (c', .inr x'))
    have hx : x = x' := Sum.inr.inj (congrArg Prod.snd h)
    rw [show c = c' from congrArg Prod.fst h, hx]

def meshToks : Finset (GSem nD τ sig × ℕ × Fin 7) := Finset.univ.map ⟨tokOf, tokOf_injective⟩

def u₀ : UU := (initOf (Pipeline.cells cfgs cellOf_inj) (Pipeline.launchToks cfgs cellOf_inj), initOf meshCells meshToks)

/-- A family over a device's copy cells: those of the sends and those of the receives. -/
theorem two_sides (Φ : Bool × T → sProp 𝕄) :
    bigSep Finset.univ Φ = iprop((bigSep Finset.univ fun t : T => Φ (false, t)) ∗ bigSep Finset.univ fun t : T => Φ (true, t)) := by
  rw [bigSep_univ_prod, bigSep_univ_eq_bigSepL [false, true] (by decide) (by decide)]; rfl

/-- A family over a device's cells. -/
theorem all_cells (Φ : Cell → sProp 𝕄) :
    bigSep Finset.univ Φ = iprop(Φ cBar ∗ (bigSep Finset.univ fun t : T => Φ (cSnd t)) ∗ bigSep Finset.univ fun t : T => Φ (cRcv t)) := by
  rw [bigSep_univ_sum, two_sides (fun x => Φ (.inr x))]
  congr 1
  exact bigSep_univ_eq_bigSepL [()] (by decide) (by decide) _

/-- The tokens of device `c`'s own cells. -/
def toks (c : Dev nD) : sProp 𝕄 :=
  iprop((bigSep Finset.univ fun r : Fin 7 => dutyTok ER (barCell c) 0 r)
    ∗ (bigSep Finset.univ fun t : T => dutyTok ER (sndCell c t) 0 (0 : Fin 7)) ∗ bigSep Finset.univ fun t : T => dutyTok ER (rcvCell c t) 0 (0 : Fin 7))

/-- The tokens of the duties device `c` pays. -/
def payToks (c : Dev nD) : sProp 𝕄 :=
  iprop((bigSep Finset.univ fun r : Fin 7 => dutyTok ER (barCell (peer c r)) 0 r)
    ∗ (bigSep Finset.univ fun t : T => dutyTok ER (sndCell c t) 0 (0 : Fin 7)) ∗ bigSep Finset.univ fun t : T => dutyTok ER (rcvCell (peer c t.2.1) t) 0 (0 : Fin 7))

/-- What the launch deals device `c`. -/
def G (c : Dev nD) : sProp 𝕄 :=
  iprop((bigSep Finset.univ fun k : Cell => roundState ER (Rd A) (kcell (c, k)) 0)
    ∗ (bigSep Finset.univ fun k : Cell => atPos ER (kcell (c, k)) 0 ∅ 0) ∗ (bigSep Finset.univ fun k : Cell => reached ER (kcell (c, k)) 0) ∗ toks (F := F) c)

theorem fund_mesh : BI.own (ER (initOf meshCells meshToks)) ⊢ (|==> bigSep Finset.univ (G A) : sProp 𝕄) := by
  have hX (Φ : GSem nD τ sig → sProp 𝕄) : bigSep meshCells Φ = bigSep Finset.univ fun c : Dev nD => bigSep Finset.univ fun k : Cell => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod]
    exact bigSep_congr fun c _ => by
      unfold toks
      rw [bigSep_univ_sum]
      exact congrArg (BI.sep _) (two_sides (fun x => dutyTok ER (tokOf (c, .inr x)).1 (tokOf (c, .inr x)).2.1 (tokOf (c, .inr x)).2.2))
  iintro HX
  imod (Rounds.fund ER (Rd A) meshCells meshToks) $$ HX with ⟨Hst, Hr, Hat, Htok⟩
  imodintro
  ihave Hst' := (Entails.of_eq (hX fun g => roundState ER (Rd A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-- The copies' semaphores at zero; -/
theorem ownSems0_eq (c : Dev nD) :
    (Pipeline.ownSems0 (Ix := Unit) (Name := ℕ) (U := UU) (Lvl := ℕ) (Val := Elt F) (τ := τ) osem c : sProp 𝕄) = Zeros (F := F) c := by
  unfold Pipeline.ownSems0 Zeros
  exact two_sides (fun x => semVal ((c : Thread nD τ), osem x) 0)

/-- the barrier semaphore is the only one that outlives the kernel. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem core_alloc (c : Dev nD) :
    iprop(Pipeline.ownSems0 (Ix := Unit) (Name := ℕ) (U := UU) (Lvl := ℕ) (Val := Elt F) (τ := τ) osem c ∗ unscopedSems0 c ∗ G A c)
      ⊢ |={Set.univ}=> iprop((bigSep Finset.univ fun k : Cell => iprop(∃ κ : ℕ, cellInv ER (Rd A) κ (kcell (c, k))))
          ∗ (bigSep Finset.univ fun k : Cell => atPos ER (kcell (c, k)) 0 ∅ 0) ∗ (bigSep Finset.univ fun k : Cell => reached ER (kcell (c, k)) 0) ∗ toks (F := F) c) := by
  unfold G
  rw [ownSems0_eq, unscopedSems0_eq]
  unfold Zeros
  iintro ⟨⟨Hs, Hr⟩, Hb, Hst, Hat, Hre, Htok⟩
  ihave Hv := (Entails.of_eq (all_cells (fun k : Cell => (semVal (kcell (c, k)) 0 : sProp 𝕄))).symm) $$ [Hs Hr Hb]
  · isplitl [Hb]; · iexact Hb
    isplitl [Hs]; · iexact Hs
    iexact Hr
  imod (show iprop((bigSep Finset.univ fun k : Cell => semVal (kcell (c, k)) 0) ∗ bigSep Finset.univ fun k : Cell => roundState ER (Rd A) (kcell (c, k)) 0)
      ⊢ (|={Set.univ}=> bigSep Finset.univ fun k : Cell => iprop(∃ κ : ℕ, cellInv ER (Rd A) κ (kcell (c, k))) : sProp 𝕄) from by
        rw [← bigSep_sep']
        exact (bigSep_mono fun k _ => (Rounds.body_intro ER (Rd A) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  isplitl [Hre]; · iexact Hre
  iexact Htok

/-- What everybody knows, the levels apart. -/
def known (K : Dev nD × Cell → ℕ) : sProp 𝕄 :=
  iprop((bigSep Finset.univ fun ck : Dev nD × Cell => cellInv ER (Rd A) (K ck) (kcell ck))
    ∗ bigSep Finset.univ fun ck : Dev nD × Cell => reached ER (kcell ck) 0)

instance known_persistent (K : Dev nD × Cell → ℕ) : BI.Persistent (known A K) := by unfold known; infer_instance

/-- What stays with device `c`. -/
def lin (c : Dev nD) : sProp 𝕄 := iprop((bigSep Finset.univ fun k : Cell => atPos ER (kcell (c, k)) 0 ∅ 0) ∗ payToks (F := F) c)

def G' (c : Dev nD) : sProp 𝕄 := iprop(∃ K, known A K ∗ lin (F := F) c)

def barEquiv : Dev nD × Fin 7 ≃ Dev nD × Fin 7 :=
  ⟨fun x => (peer x.1 x.2, x.2), fun x => (peer x.1 x.2, x.2), fun x => by simp only [peer_peer], fun x => by simp only [peer_peer]⟩
def rcvEquiv : Dev nD × T ≃ Dev nD × T :=
  ⟨fun x => (peer x.1 x.2.2.1, x.2), fun x => (peer x.1 x.2.2.1, x.2), fun x => by simp only [peer_peer], fun x => by simp only [peer_peer]⟩

/-- The tokens dealt across the mesh. -/
theorem toks_around : (bigSep Finset.univ fun c : Dev nD => (toks c : sProp 𝕄)) = bigSep Finset.univ fun c : Dev nD => payToks c := by
  unfold toks payToks
  rw [bigSep_sep', bigSep_sep', bigSep_sep', bigSep_sep',
    ← bigSep_univ_prod (fun x : Dev nD × Fin 7 => (dutyTok ER (barCell x.1) 0 x.2 : sProp 𝕄)),
    ← bigSep_univ_prod (fun x : Dev nD × T => (dutyTok ER (rcvCell x.1 x.2) 0 (0 : Fin 7) : sProp 𝕄)),
    bigSep_univ_equiv barEquiv (fun x : Dev nD × Fin 7 => (dutyTok ER (barCell x.1) 0 x.2 : sProp 𝕄)),
    bigSep_univ_equiv rcvEquiv (fun x : Dev nD × T => (dutyTok ER (rcvCell x.1 x.2) 0 (0 : Fin 7) : sProp 𝕄)),
    bigSep_univ_prod, bigSep_univ_prod]
  rfl

theorem regroup :
    (bigSep Finset.univ fun c : Dev nD => iprop((bigSep Finset.univ fun k : Cell => iprop(∃ κ : ℕ, cellInv ER (Rd A) κ (kcell (c, k))))
          ∗ (bigSep Finset.univ fun k : Cell => atPos ER (kcell (c, k)) 0 ∅ 0) ∗ (bigSep Finset.univ fun k : Cell => reached ER (kcell (c, k)) 0) ∗ toks (F := F) c) : sProp 𝕄)
      ⊢ bigSep Finset.univ (G' A) := by
  rw [bigSep_sep', bigSep_sep', bigSep_sep', ← bigSep_univ_prod (fun ck : Dev nD × Cell => iprop(∃ κ : ℕ, cellInv ER (Rd A) κ (kcell ck))),
    ← bigSep_univ_prod (fun ck : Dev nD × Cell => (reached ER (kcell ck) 0 : sProp 𝕄)), toks_around]
  iintro ⟨HI, Hat, #HR, Htok⟩
  ihave HK := (BI.bigSep_exists_pi Finset.univ (fun (ck : Dev nD × Cell) (κ : ℕ) => (cellInv ER (Rd A) κ (kcell ck) : sProp 𝕄))) $$ HI
  icases HK with ⟨%K, #HI⟩
  have h : ∀ c : Dev nD, iprop(known A K ∗ lin (F := F) c) ⊢ G' A c := fun c => by
    unfold G'
    iintro H
    iexists K
    iexact H
  iapply (BI.bigSep_with_persistent (R := known A K) fun c _ => h c)
  isplitr
  · unfold known; isplitl; · iexact HI
    iexact HR
  · unfold lin
    rw [bigSep_sep']
    isplitl [Hat]; · iexact Hat
    iexact Htok

/-- All devices' semaphores and tokens become what each starts from. -/
theorem glob : (bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

end Cert.KernelIdeal.Mlp

end
-- ==== Proof.Credit.lean ====
module

public import proofs.«01_k».proof.Proof.Ghost

/-! # The credits at the launch

Each device's barrier is owed one unit by every peer, and each of its receive cells one copy's worth by one peer. -/

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok)

variable {F : FTy → Type} [FloatOps F]

local notation "𝕄" => MT nD τ sig Unit (Elt F) ℕ UU ℕ

theorem rcv_eq_iff (c d : Dev nD) (t t' : T) : rcvCell c t = rcvCell (peer d t'.2.1) t' ↔ t' = t ∧ d = peer c t.2.1 := by
  constructor
  · intro h
    have h1 := kcell_injective h
    have h2 : t = t' := congrArg Prod.snd (Sum.inr.inj (congrArg Prod.snd h1))
    have h3 : c = peer d t'.2.1 := congrArg Prod.fst h1
    subst h2
    exact ⟨rfl, by rw [h3, peer_peer]⟩
  · rintro ⟨rfl, rfl⟩
    rw [peer_peer]

theorem bar_eq_iff (c d : Dev nD) (r : Fin 7) : barCell c = barCell (peer d r) ↔ d = peer c r := by
  constructor
  · intro h
    have h3 : c = peer d r := congrArg Prod.fst (kcell_injective h)
    rw [h3, peer_peer]
  · rintro rfl
    rw [peer_peer]

theorem rcv_ne_bar (c d : Dev nD) (t : T) : rcvCell c t ≠ barCell d := fun h =>
  absurd (congrArg Prod.snd (kcell_injective h)) (fun h => by cases h)

theorem owedL_bar (d c : Dev nD) (ts : List T) : owedL d ts (barCell c) () = 0 := by
  induction ts with
  | nil => rfl
  | cons t l ih =>
    unfold owedL
    rw [Pi.add_apply, Finsupp.add_apply, ih, tallyAt_apply, if_neg (fun h => rcv_ne_bar _ _ _ h.1.symm)]

theorem owedL_rcv (d c : Dev nD) (t : T) (ts : List T) :
    owedL d ts (rcvCell c t) () = (ts.map fun t' => if t' = t ∧ d = peer c t.2.1 then N else 0).sum := by
  induction ts with
  | nil => rfl
  | cons t' l ih =>
    unfold owedL
    rw [Pi.add_apply, Finsupp.add_apply, ih, tallyAt_apply, List.map_cons, List.sum_cons, Nat.add_comm]
    congr 1
    by_cases h : t' = t ∧ d = peer c t.2.1
    · rw [if_pos h, if_pos ⟨(rcv_eq_iff c d t t').2 h, rfl⟩]
    · rw [if_neg h, if_neg (fun h' => h ((rcv_eq_iff c d t t').1 h'.1))]

theorem owedSig_rcv (d c : Dev nD) (t : T) (ts : List T) (l : List (Fin 7)) :
    owedSig d ts l (rcvCell c t) () = owedL d ts (rcvCell c t) () := by
  induction l with
  | nil => rfl
  | cons r l ih =>
    unfold owedSig
    rw [Pi.add_apply, Finsupp.add_apply, ih, tallyAt_apply, if_neg (fun h => rcv_ne_bar _ _ _ h.1), Nat.add_zero]

theorem owedSig_bar (d c : Dev nD) (ts : List T) (l : List (Fin 7)) :
    owedSig d ts l (barCell c) () = (l.map fun r => if d = peer c r then 1 else 0).sum := by
  induction l with
  | nil => exact owedL_bar d c ts
  | cons r l ih =>
    unfold owedSig
    rw [Pi.add_apply, Finsupp.add_apply, ih, tallyAt_apply, List.map_cons, List.sum_cons, Nat.add_comm]
    congr 1
    by_cases h : d = peer c r
    · rw [if_pos h, if_pos ⟨(bar_eq_iff c d r).2 h, rfl⟩]
    · rw [if_neg h, if_neg (fun h' => h ((bar_eq_iff c d r).1 h'.1))]

theorem allSends_nodup : allSends.Nodup := by decide +kernel
theorem allSends_all : allSends.toFinset = Finset.univ := by decide +kernel
theorem issue_nodup : issue.Nodup := by decide
theorem issue_all : issue.toFinset = Finset.univ := by decide

/-- What a device owes at the launch. -/
def O₀ (c : Dev nD) : CellTallies nD τ sig Unit := owedSig c allSends issue

theorem owed_bar (d c : Dev nD) : O₀ d (barCell c) () = ∑ r : Fin 7, if d = peer c r then 1 else 0 := by
  unfold O₀
  rw [owedSig_bar, ← List.sum_toFinset _ issue_nodup, issue_all]

theorem owed_rcv (d c : Dev nD) (t : T) : O₀ d (rcvCell c t) () = if d = peer c t.2.1 then N else 0 := by
  unfold O₀
  rw [owedSig_rcv, owedL_rcv, ← List.sum_toFinset _ allSends_nodup, allSends_all, Finset.sum_eq_single t]
  · by_cases h : d = peer c t.2.1
    · rw [if_pos ⟨rfl, h⟩, if_pos h]
    · rw [if_neg (fun h' => h h'.2), if_neg h]
  · intro b _ hb
    exact if_neg (fun h' => hb h'.1)
  · intro h
    exact absurd (Finset.mem_univ t) h

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun r _ => (Finset.sum_ite_eq' Finset.univ (peer c r) fun _ => 1).trans (if_pos (Finset.mem_univ _)),
    Finset.sum_const, Finset.card_univ, Fintype.card_fin, smul_eq_mul]

theorem launch_rcv (c : Dev nD) (t : T) :
    tallyOn (rcvCell c t) (launchCredit (Pipeline.owing O₀) 0 (rcvCell c t)) = (tallyAt (rcvCell c t) () N : CellTallies nD τ sig Unit) := by
  unfold tallyAt; refine congrArg _ (Finsupp.ext fun u => ?_); cases u
  rw [Pipeline.launchCredit_owing, Finsupp.single_eq_same, Finset.sum_congr rfl fun d _ => owed_rcv d c t,
    Finset.sum_ite_eq' Finset.univ (peer c t.2.1) fun _ => N, if_pos (Finset.mem_univ _)]

/-- The cells that are owed something. -/
def credLoc : Unit ⊕ T ↪ SemLoc sig :=
  ⟨fun x => match x with | .inl _ => csem cBar | .inr t => csem (cRcv t), fun x y h => by
    rcases x with a | t <;> rcases y with b | t'
    · rfl
    · exact absurd (csem_injective h) (fun h => by cases h)
    · exact absurd (csem_injective h) (fun h => by cases h)
    · exact congrArg Sum.inr (congrArg Prod.snd (Sum.inr.inj (csem_injective h)))⟩

theorem creds (c : Dev nD) :
    (Pipeline.launchCred O₀ c : sProp 𝕄)
      ⊢ iprop(cred (tallyAt (barCell c) () 7) ∗ bigSep Finset.univ fun t : T => cred (tallyAt (rcvCell c t) () N)) := by
  unfold Pipeline.launchCred
  have e : bigSep (Finset.univ.map credLoc) (fun sm : SemLoc sig => (cred (tallyOn ((c : Thread nD τ), sm) (launchCredit (Pipeline.owing O₀) 0 ((c : Thread nD τ), sm))) : sProp 𝕄))
      = iprop(cred (tallyAt (barCell c) () 7) ∗ bigSep Finset.univ fun t : T => cred (tallyAt (rcvCell c t) () N)) := by
    rw [bigSep_map, bigSep_univ_sum, bigSep_univ_eq_bigSepL [()] (by decide) (by decide), bigSepL_singleton, ← launch_bar]
    congr 1
    exact bigSep_congr fun t _ => congrArg cred (launch_rcv c t)
  rw [← e]
  exact bigSep_subset (Finset.subset_univ _)

/-- What a device holds once the credits are dealt. -/
theorem start_tk (c : Dev nD) : iprop(lin (F := F) c ∗ Pipeline.launchCred O₀ c) ⊢ StartTk (F := F) c := by
  have hR : (bigSep Finset.univ fun t : T => Rv (F := F) c t)
      = iprop((bigSep Finset.univ fun t : T => atPos ER (rcvCell c t) 0 ∅ 0) ∗ bigSep Finset.univ fun t : T => cred (tallyAt (rcvCell c t) () N)) := by
    rw [← bigSep_sep']; rfl
  have hT : (bigSep Finset.univ fun t : T => Tk (F := F) c t)
      = iprop((bigSep Finset.univ fun t : T => atPos ER (sndCell c t) 0 ∅ 0) ∗ (bigSep Finset.univ fun t : T => dutyTok ER (sndCell c t) 0 (0 : Fin 7))
        ∗ bigSep Finset.univ fun t : T => dutyTok ER (rcvCell (peer c t.2.1) t) 0 (0 : Fin 7)) := by
    rw [← bigSep_sep', ← bigSep_sep']; rfl
  unfold lin payToks StartTk
  rw [hR, hT, all_cells, bigSep_univ_eq_bigSepL issue (by decide) (by decide)]
  iintro ⟨⟨⟨Hb, Hs, Hr⟩, Hd, H1, H2⟩, Hc⟩
  ihave Hc := (creds (F := F) c) $$ Hc
  icases Hc with ⟨Cb, Cr⟩
  isplitl [Hd]; · iexact Hd
  isplitl [Hb Cb]
  · isplitl [Hb]; · iexact Hb
    iexact Cb
  isplitl [Hr Cr]
  · isplitl [Hr]; · iexact Hr
    iexact Cr
  isplitl [Hs]; · iexact Hs
  isplitl [H1]; · iexact H1
  iexact H2

end Cert.KernelIdeal.Mlp

end
-- ==== Proof.BodyEq.lean ====
module

public import proofs.«01_k».proof.Proof.Program

@[expose] public section

set_option maxRecDepth 1000000
set_option maxHeartbeats 0

noncomputable section

namespace Cert.KernelIdeal.Mlp

open Idealize.ShloMosaic Idealize.SL.Sem Cert.KernelIdeal Cert.KernelIdeal.Gen

variable {F : FTy → Type} [FloatOps F]

/-- The printed body is the loops' program. -/
theorem body_eq (W : Wins) :
    cc0_body (F := F) W.x W.hx (W.win 0) (W.hwin 0) (W.wout 0) (W.hwout 0) (W.win 1) (W.hwin 1) (W.wout 1) (W.hwout 1)
      (W.win 2) (W.hwin 2) (W.wout 2) (W.hwout 2) W.out W.hout (Memref.whole cc0_scratch0) (Memref.isWhole_whole _)
      (Memref.whole cc0_scratch1) (Memref.isWhole_whole _) (Memref.whole cc0_scratch2) (Memref.isWhole_whole _)
      (Memref.whole cc0_scratch3) (Memref.isWhole_whole _) cc0_scratch4 cc0_scratch5 = body W := rfl

end Cert.KernelIdeal.Mlp

end
-- ==== Proof.Run.lean ====
module

public import proofs.«01_k».proof.Proof.Credit
public import proofs.«01_k».proof.Proof.BodyEq
public import Idealize.ShloMosaic.Lib.Pipeline.FrameBody
public import Idealize.ShloMosaic.Lib.Ring
public import Idealize.ShloMosaic.Lib.Quiescent
public import Idealize.ShloMosaic.Lib.Pipeline.CollectiveSegs

/-! # The run

From any memory with zero counters, at any float values: the eight devices' programs end, each device's result array
holds the computed rows, the arguments hold what they held, and every semaphore is at zero. -/

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok)

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- The devices' arguments. -/
def args : Inputs F where
  x c := m ((c : Thread nD τ).loc main_arg0)
  w1 l c := match l with
    | 0 => m ((c : Thread nD τ).loc main_arg1)
    | 1 => m ((c : Thread nD τ).loc main_arg2)
    | 2 => m ((c : Thread nD τ).loc main_arg3)
  w2 l c := match l with
    | 0 => m ((c : Thread nD τ).loc main_arg4)
    | 1 => m ((c : Thread nD τ).loc main_arg5)
    | 2 => m ((c : Thread nD τ).loc main_arg6)

/-- The staging buffers. -/
def stW : Wins where
  x := Memref.whole cc0_stg0_0
  hx := Memref.isWhole_whole _
  win l := match l with
    | 0 => Memref.whole cc0_stg1_0
    | 1 => Memref.whole cc0_stg3_0
    | 2 => Memref.whole cc0_stg5_0
  hwin l := match l with
    | 0 => Memref.isWhole_whole _
    | 1 => Memref.isWhole_whole _
    | 2 => Memref.isWhole_whole _
  wout l := match l with
    | 0 => Memref.whole cc0_stg2_0
    | 1 => Memref.whole cc0_stg4_0
    | 2 => Memref.whole cc0_stg6_0
  hwout l := match l with
    | 0 => Memref.isWhole_whole _
    | 1 => Memref.isWhole_whole _
    | 2 => Memref.isWhole_whole _
  out := Memref.whole cc0_stg7_0
  hout := Memref.isWhole_whole _

/-- What a device knows and holds besides its scratch buffers. -/
def Start (A : Inputs F) (c : Dev nD) : sProp 𝕄 := iprop((∃ K, recs A K) ∗ StartTk (F := F) c)
def Φ₀ (A : Inputs F) (c : Dev nD) : sProp 𝕄 := iprop(Start A c ∗ Scr (F := F) c)
def Φ₁ (c : Dev nD) : sProp 𝕄 := iprop(semVal (barCell c) 0 ∗ Zeros (F := F) c ∗ Scr (F := F) c)

def dats (_ : Fin 1) (c : Dev nD) : Dat τ (Elt F) Unit ℕ UU ℕ cfg0 c where
  A w := m ((cfg0.win w).arr.view.loc (c : Thread nD τ))
  after w _ := match w with
    | ⟨0, _⟩ => (args m).x c
    | ⟨1, _⟩ => (args m).w1 0 c
    | ⟨2, _⟩ => (args m).w2 0 c
    | ⟨3, _⟩ => (args m).w1 1 c
    | ⟨4, _⟩ => (args m).w2 1 c
    | ⟨5, _⟩ => (args m).w1 2 c
    | ⟨6, _⟩ => (args m).w2 2 c
    | ⟨7, _⟩ => outFinal (args m) c
  Φ t := match t with
    | ⟨0, _⟩ => Φ₀ (args m) c
    | ⟨_ + 1, _⟩ => Φ₁ (F := F) c
  q _ := fullShare
  owed t := match t with
    | ⟨0, _⟩ => O₀ c
    | ⟨_ + 1, _⟩ => 0

/-! ## The body -/

/-- The one point of the grid finds each argument whole in its staging buffer. -/
theorem before_0 (c : Dev nD) (d) : (dats m 0 c).before (0 : Fin 8) t0_0 d = (args m).x c := by
  unfold Dat.before; rw [if_pos (fetch0_0 _)]
  exact Memref.read_access_unit_zero (Elt F) main_arg0 (off := fun a => (win0_0.index (0 : Fin 1)) a * main_arg0.ty.shape.size a)
    (funext fun a => by fin_cases a <;> decide) (fun a => by fin_cases a <;> decide) _
theorem before_1 (c : Dev nD) (d) : (dats m 0 c).before (1 : Fin 8) t0_0 d = (args m).w1 0 c := by
  unfold Dat.before; rw [if_pos (fetch0_1 _)]
  exact Memref.read_access_unit_zero (Elt F) main_arg1 (off := fun a => (win0_1.index (0 : Fin 1)) a * main_arg1.ty.shape.size a)
    (funext fun a => by fin_cases a <;> decide) (fun a => by fin_cases a <;> decide) _
theorem before_2 (c : Dev nD) (d) : (dats m 0 c).before (2 : Fin 8) t0_0 d = (args m).w2 0 c := by
  unfold Dat.before; rw [if_pos (fetch0_2 _)]
  exact Memref.read_access_unit_zero (Elt F) main_arg4 (off := fun a => (win0_2.index (0 : Fin 1)) a * main_arg4.ty.shape.size a)
    (funext fun a => by fin_cases a <;> decide) (fun a => by fin_cases a <;> decide) _
theorem before_3 (c : Dev nD) (d) : (dats m 0 c).before (3 : Fin 8) t0_0 d = (args m).w1 1 c := by
  unfold Dat.before; rw [if_pos (fetch0_3 _)]
  exact Memref.read_access_unit_zero (Elt F) main_arg2 (off := fun a => (win0_3.index (0 : Fin 1)) a * main_arg2.ty.shape.size a)
    (funext fun a => by fin_cases a <;> decide) (fun a => by fin_cases a <;> decide) _
theorem before_4 (c : Dev nD) (d) : (dats m 0 c).before (4 : Fin 8) t0_0 d = (args m).w2 1 c := by
  unfold Dat.before; rw [if_pos (fetch0_4 _)]
  exact Memref.read_access_unit_zero (Elt F) main_arg5 (off := fun a => (win0_4.index (0 : Fin 1)) a * main_arg5.ty.shape.size a)
    (funext fun a => by fin_cases a <;> decide) (fun a => by fin_cases a <;> decide) _
theorem before_5 (c : Dev nD) (d) : (dats m 0 c).before (5 : Fin 8) t0_0 d = (args m).w1 2 c := by
  unfold Dat.before; rw [if_pos (fetch0_5 _)]
  exact Memref.read_access_unit_zero (Elt F) main_arg3 (off := fun a => (win0_5.index (0 : Fin 1)) a * main_arg3.ty.shape.size a)
    (funext fun a => by fin_cases a <;> decide) (fun a => by fin_cases a <;> decide) _
theorem before_6 (c : Dev nD) (d) : (dats m 0 c).before (6 : Fin 8) t0_0 d = (args m).w2 2 c := by
  unfold Dat.before; rw [if_pos (fetch0_6 _)]
  exact Memref.read_access_unit_zero (Elt F) main_arg6 (off := fun a => (win0_6.index (0 : Fin 1)) a * main_arg6.ty.shape.size a)
    (funext fun a => by fin_cases a <;> decide) (fun a => by fin_cases a <;> decide) _

/-- What the pipeline hands the body, -/
def bodyPre (c : Dev nD) : sProp 𝕄 :=
  iprop(Φ₀ (args m) c ∗ (dats m 0 c).owesAt () t0_0.castSucc
    ∗ (∃ d, own c stW.x fullShare ((dats m 0 c).before (0 : Fin 8) t0_0 d))
    ∗ (∃ d, own c (stW.win 0) fullShare ((dats m 0 c).before (1 : Fin 8) t0_0 d))
    ∗ (∃ d, own c (stW.wout 0) fullShare ((dats m 0 c).before (2 : Fin 8) t0_0 d))
    ∗ (∃ d, own c (stW.win 1) fullShare ((dats m 0 c).before (3 : Fin 8) t0_0 d))
    ∗ (∃ d, own c (stW.wout 1) fullShare ((dats m 0 c).before (4 : Fin 8) t0_0 d))
    ∗ (∃ d, own c (stW.win 2) fullShare ((dats m 0 c).before (5 : Fin 8) t0_0 d))
    ∗ (∃ d, own c (stW.wout 2) fullShare ((dats m 0 c).before (6 : Fin 8) t0_0 d))
    ∗ (∃ d, own c stW.out fullShare ((dats m 0 c).before (7 : Fin 8) t0_0 d)))

/-- and what it takes back. -/
def bodyPost (c : Dev nD) : sProp 𝕄 :=
  iprop(Φ₁ (F := F) c ∗ (dats m 0 c).owesAt () t0_0.succ
    ∗ own c stW.x fullShare ((args m).x c)
    ∗ own c (stW.win 0) fullShare ((args m).w1 0 c) ∗ own c (stW.wout 0) fullShare ((args m).w2 0 c)
    ∗ own c (stW.win 1) fullShare ((args m).w1 1 c) ∗ own c (stW.wout 1) fullShare ((args m).w2 1 c)
    ∗ own c (stW.win 2) fullShare ((args m).w1 2 c) ∗ own c (stW.wout 2) fullShare ((args m).w2 2 c)
    ∗ own c stW.out fullShare (outFinal (args m) c))

theorem owes_in (c : Dev nD) : (dats m 0 c).owesAt () t0_0.castSucc ⊢ Owes (F := F) c (owedSig c allSends issue) := by
  unfold Dat.owesAt Pipeline.owesWithin Owes
  rw [show (dats m 0 c).owed t0_0.castSucc = owedSig c allSends issue from rfl]
  iintro ⟨%W, %hW, HO⟩
  iexists W
  iexact HO

theorem owes_out (c : Dev nD) : Owes (F := F) c 0 ⊢ (dats m 0 c).owesAt () t0_0.succ := by
  unfold Dat.owesAt Pipeline.owesWithin Owes
  rw [show (dats m 0 c).owed t0_0.succ = 0 from rfl]
  iintro ⟨%W, HO⟩
  iexists W
  isplitr
  · ipureintro; exact fun _ _ => Or.inl trivial
  iexact HO

/-- The body leads from the one to the other. -/
theorem sound_body (c : Dev nD) : bodyPre m c ⊢ WP c (body stW) (fun _ => bodyPost m c) := by
  unfold bodyPre bodyPost Φ₀ Start
  simp only [before_0, before_1, before_2, before_3, before_4, before_5, before_6]
  iintro ⟨⟨⟨⟨%K, #HR⟩, Htk⟩, Hscr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  ihave Ho := (owes_in m c) $$ Ho
  ihave Hin := (body_in (F := F) c) $$ [Hscr Htk]
  · isplitl [Hscr]; · iexact Hscr
    iexact Htk
  icases Hin with ⟨Hin, HL⟩
  iapply (wp_body (args m) K stW c _) $$ [Ho H0 H1 H2 H3 H4 H5 H6 H7 Hin]
  · isplitr; · iexact HR
    isplitl [Ho]; · iexact Ho
    isplitr [Hin]
    · iexists _
      unfold WinRes LayWin
      isplitl [H0]; · iexact H0
      isplitl [H1 H2]
      · isplitl [H1]; · iexact H1
        iexact H2
      isplitl [H3 H4]
      · isplitl [H3]; · iexact H3
        iexact H4
      isplitl [H5 H6]
      · isplitl [H5]; · iexact H5
        iexact H6
      iexact H7
    iexact Hin
  unfold WinRes LayWin
  iintro ⟨Ho, ⟨H0, ⟨H1, H2⟩, ⟨H3, H4⟩, ⟨H5, H6⟩, H7⟩, Hout⟩
  ihave Hend := (body_out (args m) c) $$ [Hout HL]
  · isplitl [Hout]; · iexact Hout
    iexact HL
  isplitl [Hend]; · unfold Φ₁; iexact Hend
  isplitl [Ho]; · iapply (owes_out m c) $$ Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxRecDepth 100000 in
/-- The pipeline's obligation. -/
theorem body_obligation (c : Dev nD) : BodyObligation (dats (F := F) m 0 c) (defs₀ (F := F)) 𝒱₀ () Set.univ := fun t => by
  rw [fin_N0 t]
  rw [bigSep_W0, bigSep_W0]
  show bodyPre m c ⊢ WP c (cc0_body (F := F) stW.x stW.hx (stW.win 0) (stW.hwin 0) (stW.wout 0) (stW.hwout 0) (stW.win 1) (stW.hwin 1) (stW.wout 1) (stW.hwout 1)
      (stW.win 2) (stW.hwin 2) (stW.wout 2) (stW.hwout 2) stW.out stW.hout (Memref.whole cc0_scratch0) (Memref.isWhole_whole _)
      (Memref.whole cc0_scratch1) (Memref.isWhole_whole _) (Memref.whole cc0_scratch2) (Memref.isWhole_whole _)
      (Memref.whole cc0_scratch3) (Memref.isWhole_whole _) cc0_scratch4 cc0_scratch5) (fun _ => bodyPost m c)
  rw [body_eq]
  exact sound_body m c

/-! ## The launch -/

theorem ownSemFacts : Pipeline.OwnSemFacts cfg0.spec osem where
  isScoped := by decide +kernel
  inj := osem_injective
  disj := by decide +kernel

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (args m) c)
      ⊢ |={Set.univ}=> iprop(Start (args m) c ∗ emp) := by
  unfold G' Start known recs
  iintro ⟨-, #Hlev, Hcr, -, ⟨%K, ⟨#HI, #HR⟩, Hlin⟩⟩
  imodintro
  isplitl
  · isplitr
    · iexists K
      isplitr; · iexact HI
      isplitr; · iexact HR
      iexact Hlev
    iapply (start_tk (F := F) c)
    isplitl [Hlin]; · iexact Hlin
    iexact Hcr
  · iempintro

include m in
theorem scratch_eq (c : Dev nD) :
    (Pipeline.scopedRest (Ix := Unit) (Name := ℕ) (U := UU) (Lvl := ℕ) (Val := Elt F) cfg0.spec c : sProp 𝕄) = Scr (F := F) c :=
  scr_eq c (m ((c : Thread nD τ).loc cc0_scratch0)) (m ((c : Thread nD τ).loc cc0_scratch1)) (m ((c : Thread nD τ).loc cc0_scratch2))
    (m ((c : Thread nD τ).loc cc0_scratch3))

theorem phi0_intro (c : Dev nD) :
    iprop(Start (args m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ (args m) c from rfl, scratch_eq m c]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, scratch_eq m c, ownSems0_eq, unscopedSems0_eq]
  unfold Φ₁
  iintro H
  iexact H

theorem lv_stage (c : Dev nD) (q : DmaSem sig) (hq : ∀ x, osem x ≠ .dma q) : lv ((c : Thread nD τ), .dma q) () = 0 := by
  have h : dec (.dma q) = none := by
    unfold dec
    refine dif_neg ?_
    rintro ⟨x, hx⟩
    rcases x with a | x
    · cases hx
    · exact hq x hx
  show (match dec (.dma q) with | some (.inl _) => 1 | some (.inr (true, t)) => t.1.phase.val + 2 | _ => 0) = 0
  rw [h]

theorem waits (c : Dev nD) : (levAts L lv : sProp 𝕄) ⊢ Pipeline.cellsWaits cfgs (dats m) () 0 c :=
  Pipeline.cellsWaits_intro cfgs (dats m) () 0 c fun w s t => by
    have h := lv_stage c ((cfg0.win w).sem s) (fun x => ownSemFacts.disj x w s)
    rcases t with ⟨_ | _, ht⟩
    · exact mayWait_zero c _ h allSends issue
    · exact mayWait_zero c _ h [] []

/-! ## The run -/

def finalA (c : Dev nD) (w : Fin cfg0.W) : Buf (Elt F) ((cfg0.win w).arr.view.loc (c : Thread nD τ)) := (dats m 0 c).arrAt w cfg0.N

/-- Every window's array at its final contents. -/
def QC : PUnit × MemSt nD τ sig (Elt F) → Prop := fun r =>
  ∀ c : Dev nD, ∀ w : Fin cfg0.W, r.2.mem ((cfg0.win w).arr.view.loc (c : Thread nD τ)) = finalA m c w

set_option maxRecDepth 100000 in
theorem run_windows : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (args m)) (G' := G' (args m)) (u₀ := u₀)
    (hu₀ := by
      unfold u₀
      iintro Hu
      ihave H := (ownU_pair _ _) $$ Hu
      icases H with ⟨HP, HX⟩
      imod (fund_mesh (args m)) $$ HX with HG
      imodintro
      isplitl [HP] <;> iassumption)
    (hglob := glob (args m))
    (hA := fun _ _ => rfl) (hpf := fun _ k => k.elim0)
    (X := Start (args m)) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array. -/
theorem final_out (c : Dev nD) : finalA m c (7 : Fin 8) = outFinal (args m) c := by
  have hr := fun f => Memref.read_access_unit_zero (Elt F) main_v1 (off := fun a => (win0_7.index (0 : Fin 1)) a * main_v1.ty.shape.size a)
    (funext fun a => by fin_cases a <;> decide) (fun a => by fin_cases a <;> decide) f
  have ho : (win0_7.blk (0 : Fin 1)).view.read (Elt F) (finalA m c (7 : Fin 8)) = outFinal (args m) c := by
    unfold finalA
    rw [show cfg0.N = ((0 : Fin 1) : Fin cfg0.N).val + 1 from rfl, (dats m 0 c).arrAt_succ (7 : Fin 8) (0 : Fin 1)]
    rw [show (cfg0.win (7 : Fin 8)).flush (0 : Fin 1) = true from by decide +kernel, if_pos rfl]
    exact View.read_write_univ _ _
  exact (hr _).symm.trans ho

/-- The run, buffer by buffer. -/
theorem run_main : θ_run defs (onTc (τ := τ) (main (F := F))) ⟨m, fun _ => 0, ρ⟩ (fun r => (∀ c : Dev nD,
      r.2.mem ((c : Thread nD τ).loc main_v1) = outFinal (args m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0) :=
  (θ_run defs _ _).mono (fun _ h => ⟨fun c => ⟨(h.1 c 7).trans (final_out m c),
      (h.1 c 0).trans ((dats m 0 c).arrAt_in 0 rfl _), (h.1 c 1).trans ((dats m 0 c).arrAt_in 1 rfl _),
      (h.1 c 3).trans ((dats m 0 c).arrAt_in 3 rfl _), (h.1 c 5).trans ((dats m 0 c).arrAt_in 5 rfl _),
      (h.1 c 2).trans ((dats m 0 c).arrAt_in 2 rfl _), (h.1 c 4).trans ((dats m 0 c).arrAt_in 4 rfl _),
      (h.1 c 6).trans ((dats m 0 c).arrAt_in 6 rfl _)⟩, h.2⟩) (run_windows m ρ)

end Cert.KernelIdeal.Mlp

end
-- ==== Proof.Frames.lean ====
module

public import proofs.«01_k».proof.Defs
public import proofs.«01_k».proof.Proof.Gen.Kernel
public import proofs.«01_k».proof.Proof.Gen.ReferenceIdeal.Run
public import proofs.«01_k».proof.Proof.Run

/-! # The three frames

The kernel's two programs have the same text, so both frames are the one run of `Run`, its values dropped. -/

@[expose] public section

noncomputable section

namespace Cert.Proof

open Idealize.ShloMosaic Idealize.ShloMosaic.TcCoe Idealize.SL.Sem

set_option maxRecDepth 100000 in
/-- The two programs' kernel functions are one. -/
theorem defs₀_eq : Cert.Kernel.defs₀ (F := Bits) = Cert.KernelIdeal.defs₀ (F := Bits) := by
  unfold Cert.Kernel.defs₀ Cert.KernelIdeal.defs₀
  refine congrArg Defs.onTc ?_
  funext l a
  match l with
  | 0 =>
    obtain ⟨t, s⟩ := a
    show Cert.Kernel.cc0_body (F := Bits) .. = Cert.KernelIdeal.cc0_body (F := Bits) ..
    rfl

set_option maxRecDepth 100000 in
theorem defs_eq : Cert.Kernel.defs (F := Bits) = Cert.KernelIdeal.defs (F := Bits) := by
  unfold Cert.Kernel.defs Cert.KernelIdeal.defs
  exact congrArg (Pipeline.defs _) defs₀_eq

/-- The kernel as printed runs, keeps its arguments and leaves every semaphore at zero. -/
theorem frame_kernel : Cert.quiescent_Kernel := fun m ρ _ => by
  rw [defs_eq]
  exact (θ_run Cert.KernelIdeal.defs _ _).mono (fun _ h => ⟨fun c => (h.1 c).2, h.2⟩) (Cert.KernelIdeal.Mlp.run_main (F := Bits) m ρ)

/-- So does the kernel read over the reals. -/
theorem frame_ideal : Cert.quiescent_KernelIdeal := fun m ρ _ =>
  (θ_run Cert.KernelIdeal.defs _ _).mono (fun _ h => ⟨fun c => (h.1 c).2, h.2⟩) (Cert.KernelIdeal.Mlp.run_main (F := Ideal) m ρ)

/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Reals.lean ====
module

public import proofs.«01_k».proof.Proof.Values
public import Idealize.ShloMosaic.Lib.StackMember
public import Idealize.ShloMosaic.Lib.Layout

/-! # The values over the reals

Each device's block after a layer is its block of the whole layer's result: the eight devices' addends, 512 hidden
columns each, are the sum over all 4096. -/

@[expose] public section

noncomputable section

namespace Cert.KernelIdeal.Mlp

open Cert.KernelIdeal Cert.KernelIdeal.Gen Idealize.ShloMosaic Idealize.SL.Sem
open Idealize.ShloMosaic.ValueIdx

/-- One entry of a row `v` through one layer with `J` hidden columns: the row times the first weight, the negative part
    dropped, times the second weight. -/
def mlp {J : ℕ} (w1 : FVec Ideal ⟨2, ![256, J]⟩ .bf16) (w2 : FVec Ideal ⟨2, ![J, 256]⟩ .bf16) (v : Fin 256 → EReal) (n : Fin 256) : EReal :=
  ∑ j : Fin J, max (∑ k : Fin 256, v k * w1 (ix2 k j)) 0 * w2 (ix2 j n)

/-- The kernel's two products with the rectifier between, at an entry. -/
theorem two_products {M J : ℕ} (x : FVec Ideal ⟨2, ![M, 256]⟩ .bf16) (w1 : FVec Ideal ⟨2, ![256, J]⟩ .bf16) (w2 : FVec Ideal ⟨2, ![J, 256]⟩ .bf16)
    (h : FTy.bits .bf16 < FTy.bits .f32) (r : Fin M) (n : Fin 256) :
    matmul (DotDims.plain M J 256) none
      (truncf .bf16 (maximumf (matmul (DotDims.plain M 256 J) none x w1 (constant ⟨2, ![M, J]⟩ .f32 0x00000000#32))
        (broadcast ⟨2, ![M, J]⟩ (Scalar.ofBits (F := Ideal) .f32 0x00000000#32))) h)
      w2 (constant ⟨2, ![M, 256]⟩ .f32 0x00000000#32) (ix2 r n)
    = mlp w1 w2 (fun k => x (ix2 r k)) n := by
  rw [matmul_zero_eq_dotGeneral, StackMember.dotGeneral_plain_apply]
  refine Finset.sum_congr rfl fun j _ => ?_
  show max (matmul (DotDims.plain M 256 J) none x w1 (constant ⟨2, ![M, J]⟩ .f32 0x00000000#32) (ix2 r j)) (Ideal.ofBits .f32 0x00000000#32) * w2 (ix2 j n) = _
  rw [matmul_zero_eq_dotGeneral, StackMember.dotGeneral_plain_apply, Ideal.ofBits_zero_f32]

theorem ownAcc_apply (x : FVec Ideal S256x256 .bf16) (w1 : FVec Ideal S256x512 .bf16) (w2 : FVec Ideal S512x256 .bf16) (r n : Fin 256) :
    ownAcc x w1 w2 (ix2 r n) = mlp (J := 512) w1 w2 (fun k => x (ix2 r k)) n :=
  two_products (M := 256) (J := 512) x w1 w2 bitsLt_bf16_f32 r n

theorem partProd_apply (w1 : FVec Ideal S256x512 .bf16) (w2 : FVec Ideal S512x256 .bf16) (v : FVec Ideal S128x256 .bf16) (r : Fin 128) (n : Fin 256) :
    partProd w1 w2 v (ix2 r n) = mlp (J := 512) w1 w2 (fun k => v (ix2 r k)) n :=
  two_products (M := 128) (J := 512) v w1 w2 bitsLt_bf16_f32 r n

/-! ## The sum over devices -/

theorem peers_cover : ∀ c : Dev nD, Finset.univ.erase c = Finset.univ.image (peer c) := by decide +kernel

/-- A device and its seven peers are the eight devices. -/
theorem sum_peers (f : Dev nD → EReal) (c : Dev nD) : f c + ∑ r : Fin 7, f (peer c r) = ∑ p : Dev nD, f p := by
  rw [← Finset.add_sum_erase Finset.univ f (Finset.mem_univ c), peers_cover c, Finset.sum_image fun r _ r' _ h => peer_inj c r r' h]

/-- The addends in the order of arrival. -/
theorem sum_arrival (g : Fin 7 → EReal) (a : EReal) : arrival.foldl (fun b r => b + g r) a = a + ∑ r : Fin 7, g r := by
  show ((((((a + g 0) + g 2) + g 3) + g 1) + g 4) + g 6) + g 5 = _
  rw [Fin.sum_univ_seven]
  ac_rfl

/-- Adding up arrays is adding up at each entry. -/
theorem foldl_at (L : List (Fin 7)) (g : Fin 7 → FVec Ideal S128x256 .bf16) (a : FVec Ideal S128x256 .f32) (i : S128x256.Idx) :
    L.foldl (fun b r => addf b (extf .f32 (g r) bitsLt_bf16_f32)) a i = L.foldl (fun b r => b + g r i) (a i) := by
  induction L generalizing a with
  | nil => rfl
  | cons r L ih => exact ih _

theorem halfOf_apply (h : Fin 2) (v : FVec Ideal S256x256 .f32) (r : Fin 128) (n : Fin 256) (hr : 128 * h.val + r.val < 256) :
    halfOf h v (ix2 r n) = v (ix2 ⟨128 * h.val + r.val, hr⟩ n) := by
  match h with
  | 0 =>
    refine congrArg v (funext fun a => Fin.ext ?_)
    match a with
    | ⟨0, _⟩ => show 0 + r.val = 128 * 0 + r.val; omega
    | ⟨1, _⟩ => show 0 + n.val = n.val; omega
  | 1 =>
    refine congrArg v (funext fun a => Fin.ext ?_)
    match a with
    | ⟨0, _⟩ => show 128 + r.val = 128 * 1 + r.val; omega
    | ⟨1, _⟩ => show 0 + n.val = n.val; omega

variable (A : Inputs Ideal)

/-- A layer's result before rounding: the devices' addends. -/
theorem redOf_apply (l : Fin 3) (B : Dev nD → FVec Ideal S256x256 .bf16) (c : Dev nD) (h : Fin 2) (r : Fin 128) (n : Fin 256)
    (hr : 128 * h.val + r.val < 256) :
    redOf A l B c h (ix2 r n) = ∑ p : Dev nD, mlp (J := 512) (A.w1 l p) (A.w2 l p) (fun k => B c (ix2 ⟨128 * h.val + r.val, hr⟩ k)) n := by
  unfold redOf
  rw [foldl_at, sum_arrival, halfOf_apply h _ r n hr, ownAcc_apply]
  rw [← sum_peers (fun p => mlp (J := 512) (A.w1 l p) (A.w2 l p) (fun k => B c (ix2 ⟨128 * h.val + r.val, hr⟩ k)) n) c]
  refine congrArg (_ + ·) (Finset.sum_congr rfl fun q _ => ?_)
  unfold addend
  rw [partProd_apply]
  rfl

theorem nextOf_apply (l : Fin 3) (B : Dev nD → FVec Ideal S256x256 .bf16) (c : Dev nD) (r n : Fin 256) :
    nextOf A l B c (ix2 r n) = ∑ p : Dev nD, mlp (J := 512) (A.w1 l p) (A.w2 l p) (fun k => B c (ix2 r k)) n := by
  have hr := r.isLt
  have e : 128 * (r.val / 128) + r.val % 128 = r.val := by omega
  refine (redOf_apply A l B c ⟨r.val / 128, by omega⟩ ⟨r.val % 128, Nat.mod_lt _ (by decide)⟩ n (by show 128 * (r.val / 128) + r.val % 128 < 256; omega)).trans ?_
  have er : (⟨128 * (r.val / 128) + r.val % 128, by omega⟩ : Fin 256) = r := Fin.ext e
  show (∑ p : Dev nD, mlp (J := 512) (A.w1 l p) (A.w2 l p) (fun k => B c (ix2 ⟨128 * (r.val / 128) + r.val % 128, _⟩ k)) n) = _
  rw [er]

/-! ## The whole arrays -/

/-- 4096 hidden columns, 512 to a device. -/
theorem sum_split (g : Fin 4096 → EReal) : (∑ p : Fin 8, ∑ j : Fin 512, g ⟨p.val * 512 + j.val, by omega⟩) = ∑ J : Fin 4096, g J := by
  rw [← Fintype.sum_prod_type' (f := fun (p : Fin 8) (j : Fin 512) => g ⟨p.val * 512 + j.val, by omega⟩)]
  rw [← Equiv.sum_comp (finProdFinEquiv (m := 8) (n := 512)) g]
  refine Finset.sum_congr rfl fun x _ => congrArg g (Fin.ext ?_)
  show x.1.val * 512 + x.2.val = x.2.val + 512 * x.1.val
  omega

/-- The devices' addends, each with its columns of the first weight and its rows of the second, are the whole layer. -/
theorem mlp_split (W1 : FVec Ideal ⟨2, ![256, 4096]⟩ .bf16) (W2 : FVec Ideal ⟨2, ![4096, 256]⟩ .bf16) (v : Fin 256 → EReal) (n : Fin 256) :
    (∑ p : Fin 8, mlp (J := 512) (Layout.block ⟨2, ![256, 512]⟩ ⟨2, ![256, 4096]⟩ 1 8 p W1) (Layout.block ⟨2, ![512, 256]⟩ ⟨2, ![4096, 256]⟩ 0 8 p W2) v n)
      = mlp W1 W2 v n := by
  unfold mlp
  rw [← sum_split]
  refine Finset.sum_congr rfl fun p _ => Finset.sum_congr rfl fun j _ => ?_
  have e1 : ∀ k : Fin 256, Layout.block ⟨2, ![256, 512]⟩ ⟨2, ![256, 4096]⟩ 1 8 p W1 (by decide) (ix2 k j) = W1 (ix2 k ⟨p.val * 512 + j.val, by omega⟩) := fun k =>
    congrArg W1 (funext fun a => match a with | ⟨0, _⟩ => rfl | ⟨1, _⟩ => rfl)
  have e2 : Layout.block ⟨2, ![512, 256]⟩ ⟨2, ![4096, 256]⟩ 0 8 p W2 (by decide) (ix2 j n) = W2 (ix2 ⟨p.val * 512 + j.val, by omega⟩ n) :=
    congrArg W2 (funext fun a => match a with | ⟨0, _⟩ => rfl | ⟨1, _⟩ => rfl)
  rw [e2]
  simp only [e1]

/-- The layer on all rows. -/
def layerOf (W1 : FVec Ideal ⟨2, ![256, 4096]⟩ .bf16) (W2 : FVec Ideal ⟨2, ![4096, 256]⟩ .bf16) (X : FVec Ideal ⟨2, ![2048, 256]⟩ .bf16) :
    FVec Ideal ⟨2, ![2048, 256]⟩ .bf16 := fun i => mlp W1 W2 (fun k => X (ix2 (i 0) k)) (i 1)

/-- Every device's block of rows of an array. -/
def rowsAt (X : FVec Ideal ⟨2, ![2048, 256]⟩ .bf16) (c : Dev nD) : FVec Ideal S256x256 .bf16 :=
  Layout.block ⟨2, ![256, 256]⟩ ⟨2, ![2048, 256]⟩ 0 8 c X

theorem rowsAt_apply (X : FVec Ideal ⟨2, ![2048, 256]⟩ .bf16) (c : Dev nD) (r n : Fin 256) (h : 256 * c.val + r.val < 2048) :
    rowsAt X c (ix2 r n) = X (ix2 ⟨256 * c.val + r.val, h⟩ n) :=
  congrArg X (funext fun a => Fin.ext (match a with | ⟨0, _⟩ => by show c.val * 256 + r.val = 256 * c.val + r.val; omega | ⟨1, _⟩ => rfl))

variable (X : FVec Ideal ⟨2, ![2048, 256]⟩ .bf16) (W1 : Fin 3 → FVec Ideal ⟨2, ![256, 4096]⟩ .bf16) (W2 : Fin 3 → FVec Ideal ⟨2, ![4096, 256]⟩ .bf16)

/-- The devices hold their parts of whole arrays. -/
structure Parts : Prop where
  x : ∀ c, A.x c = rowsAt X c
  w1 : ∀ l c, A.w1 l c = Layout.block ⟨2, ![256, 512]⟩ ⟨2, ![256, 4096]⟩ 1 8 c (W1 l)
  w2 : ∀ l c, A.w2 l c = Layout.block ⟨2, ![512, 256]⟩ ⟨2, ![4096, 256]⟩ 0 8 c (W2 l)

variable {A X W1 W2}

/-- One layer on blocks is the blocks of one layer. -/
theorem next_rows (H : Parts A X W1 W2) (l : Fin 3) (Y : FVec Ideal ⟨2, ![2048, 256]⟩ .bf16) :
    nextOf A l (rowsAt Y) = rowsAt (layerOf (W1 l) (W2 l) Y) := by
  funext c i
  rw [eq_ix2 i]
  have h0 : (i 0).val < 256 := (i 0).isLt
  have hc : c.val < 8 := c.isLt
  refine (nextOf_apply A l (rowsAt Y) c (i 0) (i 1)).trans ?_
  simp only [H.w1, H.w2]
  refine (mlp_split (W1 l) (W2 l) _ _).trans ?_
  refine Eq.trans ?_ (rowsAt_apply (layerOf (W1 l) (W2 l) Y) c (i 0) (i 1) (by omega)).symm
  show mlp (W1 l) (W2 l) _ (i 1) = mlp (W1 l) (W2 l) _ (i 1)
  refine congrArg (fun v => mlp (W1 l) (W2 l) v (i 1)) (funext fun k => ?_)
  exact rowsAt_apply Y c (i 0) k (by omega)

/-- The whole network. -/
def net (X : FVec Ideal ⟨2, ![2048, 256]⟩ .bf16) (W1 : Fin 3 → FVec Ideal ⟨2, ![256, 4096]⟩ .bf16) (W2 : Fin 3 → FVec Ideal ⟨2, ![4096, 256]⟩ .bf16) :
    FVec Ideal ⟨2, ![2048, 256]⟩ .bf16 :=
  layerOf (W1 2) (W2 2) (layerOf (W1 1) (W2 1) (layerOf (W1 0) (W2 0) X))

theorem blk_last (H : Parts A X W1 W2) : blk A (some 2) = rowsAt (net X W1 W2) := by
  show nextOf A 2 (nextOf A 1 (nextOf A 0 A.x)) = _
  rw [show A.x = rowsAt X from funext H.x, next_rows H, next_rows H, next_rows H]
  rfl

/-- Over the reals rounding changes nothing, so a device's own rows are what it sends. -/
theorem outRows_eq (c p : Dev nD) (h : Fin 2) : outRows A c p h = rowsOf h (blk A (some 2) p) := by
  unfold outRows
  split
  · rename_i e
    rw [rowsOf_blk_some, e]; rfl
  · rfl

/-- Every device ends with the whole network's result. -/
theorem outFinal_eq (H : Parts A X W1 W2) (c : Dev nD) : outFinal A c = net X W1 W2 := by
  funext i
  have h0 : (i 0).val < 2048 := (i 0).isLt
  conv_rhs => rw [eq_ix2 i]
  unfold outFinal
  rw [outRows_eq, blk_last H]
  refine (rowsAt_apply (net X W1 W2) ⟨(i 0).val / 256, by show (i 0).val / 256 < 8; omega⟩
    ⟨128 * ((i 0).val / 128 % 2) + (i 0).val % 128, by omega⟩ (i 1) (by show 256 * ((i 0).val / 256) + (128 * ((i 0).val / 128 % 2) + (i 0).val % 128) < 2048; omega)).trans ?_
  refine congrArg (fun r => net X W1 W2 (ix2 r (i 1))) (Fin.ext ?_)
  show 256 * ((i 0).val / 256) + (128 * ((i 0).val / 128 % 2) + (i 0).val % 128) = (i 0).val
  omega

end Cert.KernelIdeal.Mlp

end
-- ==== Proof.Value.lean ====
module

public import proofs.«01_k».proof.Defs
public import proofs.«01_k».proof.Proof.Gen.ReferenceIdeal.Run
public import proofs.«01_k».proof.Proof.Run
public import proofs.«01_k».proof.Proof.Reals

/-! # The kernel's result is the reference's

Over the reals the reference computes three layers on the whole arrays, and every device of the kernel ends with the same
array. -/

@[expose] public section

noncomputable section

namespace Cert.Proof

open Idealize.ShloMosaic Idealize.ShloMosaic.TcCoe Idealize.SL.Sem Idealize.ShloMosaic.ValueIdx
open Cert.ReferenceIdeal Cert.ReferenceIdeal.Gen
open Cert.KernelIdeal.Mlp (mlp layerOf net Parts outFinal_eq)

/-- The reference's operations for one layer compute the layer. -/
theorem ref_layer (X : FVec Ideal S2048x256 .bf16) (W1 : FVec Ideal S256x4096 .bf16) (W2 : FVec Ideal S4096x256 .bf16) :
    truncf .bf16 (Host.dotGeneral dot_S2048x4096_S4096x256_S2048x256_1_0_0_1_n_n none
      (maximumf (extf .f32 (truncf .bf16 (Host.dotGeneral dot_S2048x256_S256x4096_S2048x4096_1_0_0_1_n_n none
          (extf .f32 X bitsLt_bf16_f32) (extf .f32 W1 bitsLt_bf16_f32)) bitsLt_bf16_f32) bitsLt_bf16_f32)
        (broadcastInDim S2048x4096 ![] bcast_S_S2048x4096 (constant S_ .f32 0x00000000#32)))
      (extf .f32 W2 bitsLt_bf16_f32)) bitsLt_bf16_f32 = layerOf W1 W2 X := by
  funext i
  conv_lhs => rw [eq_ix2 i]
  refine (StackMember.dotGeneral_plain_apply (m := 2048) (k := 4096) (n := 256) none _ _ (i 0) (i 1)).trans ?_
  show _ = mlp W1 W2 (fun k => X (ix2 (i 0) k)) (i 1)
  unfold mlp
  refine Finset.sum_congr rfl fun j _ => ?_
  have e := StackMember.dotGeneral_plain_apply (m := 2048) (k := 256) (n := 4096) (φ₁ := .bf16) (φ₂ := .bf16) none X W1 (i 0) j
  exact congrArg₂ (fun a z : EReal => max a z * W2 (ix2 j (i 1))) e Ideal.ofBits_zero_f32

/-- The kernel and the reference end with the same result. -/
theorem value : Cert.algebraic_KernelIdeal_ReferenceIdeal := fun m g m' g' _ hm => by
  let X := m' (((0 : Dev nD) : Thread nD τ).loc main_arg0)
  let W1 : Fin 3 → FVec Ideal ⟨2, ![256, 4096]⟩ .bf16 := fun l => match l with
    | 0 => m' (((0 : Dev nD) : Thread nD τ).loc main_arg1)
    | 1 => m' (((0 : Dev nD) : Thread nD τ).loc main_arg2)
    | 2 => m' (((0 : Dev nD) : Thread nD τ).loc main_arg3)
  let W2 : Fin 3 → FVec Ideal ⟨2, ![4096, 256]⟩ .bf16 := fun l => match l with
    | 0 => m' (((0 : Dev nD) : Thread nD τ).loc main_arg4)
    | 1 => m' (((0 : Dev nD) : Thread nD τ).loc main_arg5)
    | 2 => m' (((0 : Dev nD) : Thread nD τ).loc main_arg6)
  have H : Parts (Cert.KernelIdeal.Mlp.args m) X W1 W2 :=
    { x := fun c => (hm c).1
      w1 := fun l c => match l with
        | 0 => (hm c).2.1
        | 1 => (hm c).2.2.1
        | 2 => (hm c).2.2.2.1
      w2 := fun l c => match l with
        | 0 => (hm c).2.2.2.2.1
        | 1 => (hm c).2.2.2.2.2.1
        | 2 => (hm c).2.2.2.2.2.2 }
  refine ⟨net X W1 W2, ?_, ?_⟩
  · exact (θ_run Cert.KernelIdeal.defs _ _).mono (fun _ h c => ⟨(h.1 c).1.trans (outFinal_eq H c), (h.1 c).2⟩)
      (Cert.KernelIdeal.Mlp.run_main (F := Ideal) m g)
  · exact (θ_run Cert.ReferenceIdeal.defs _ _).mono (fun _ h => ⟨(h 0).1.trans (by rw [ref_layer, ref_layer, ref_layer]; rfl), (h 0).2⟩)
      (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, value⟩

end Cert.Proof

end
